-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1 : Shape := ⟨1, ![1]⟩
abbrev S4 : Shape := ⟨1, ![4]⟩
abbrev S_ : Shape := ⟨0, ![]⟩
abbrev S1024x8192 : Shape := ⟨2, ![1024, 8192]⟩
abbrev S1024x1024 : Shape := ⟨2, ![1024, 1024]⟩
abbrev S2x1024x1024 : Shape := ⟨3, ![2, 1024, 1024]⟩
abbrev S4x1024x1024 : Shape := ⟨3, ![4, 1024, 1024]⟩
abbrev S2 : Shape := ⟨1, ![2]⟩
abbrev S3 : Shape := ⟨1, ![3]⟩
abbrev S8 : Shape := ⟨1, ![8]⟩
abbrev S1x1024x1024 : Shape := ⟨3, ![1, 1024, 1024]⟩

abbrev nBuf : Space → Nat
  | .hbm => 35
  | .vmem => 8
  | .smem => 3
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S_, .i32⟩
  | .hbm, ⟨22, _⟩ => ⟨S4, .i32⟩
  | .hbm, ⟨23, _⟩ => ⟨S4, .i1⟩
  | .hbm, ⟨24, _⟩ => ⟨S_, .i32⟩
  | .hbm, ⟨25, _⟩ => ⟨S4, .i32⟩
  | .hbm, ⟨26, _⟩ => ⟨S4, .i1⟩
  | .hbm, ⟨27, _⟩ => ⟨S_, .i32⟩
  | .hbm, ⟨28, _⟩ => ⟨S_, .i1⟩
  | .hbm, ⟨29, _⟩ => ⟨S4, .i1⟩
  | .hbm, ⟨30, _⟩ => ⟨S4, .i1⟩
  | .hbm, ⟨31, _⟩ => ⟨S4, .i1⟩
  | .hbm, ⟨32, _⟩ => ⟨S4, .i32⟩
  | .hbm, ⟨33, _⟩ => ⟨S4, .i32⟩
  | .hbm, ⟨34, _⟩ => ⟨S1024x8192, .f32⟩
  | .local _ .vmem, ⟨0, _⟩ => ⟨S1024x1024, .f32⟩
  | .local _ .vmem, ⟨1, _⟩ => ⟨S1024x1024, .f32⟩
  | .local _ .vmem, ⟨2, _⟩ => ⟨S2x1024x1024, .f32⟩
  | .local _ .vmem, ⟨3, _⟩ => ⟨S4x1024x1024, .fp8e5m2⟩
  | .local _ .vmem, ⟨4, _⟩ => ⟨S4x1024x1024, .fp8e5m2⟩
  | .local _ .vmem, ⟨5, _⟩ => ⟨S1024x1024, .fp8e5m2⟩
  | .local _ .vmem, ⟨6, _⟩ => ⟨S1024x1024, .fp8e5m2⟩
  | .local _ .vmem, ⟨7, _⟩ => ⟨S1024x8192, .f32⟩
  | .local _ .smem, ⟨0, _⟩ => ⟨S4, .i32⟩
  | .local _ .smem, ⟨1, _⟩ => ⟨S1, .f32⟩
  | .local _ .smem, ⟨2, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨1, _⟩ => true
  | .smem, ⟨2, _⟩ => true
  | _, _ => false

abbrev semScoped : Fin 2 → Bool
  | ⟨0, _⟩ => false
  | ⟨1, _⟩ => true
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 2 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v8 : Ref sig .tc := ⟨.hbm, 34, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev barrier0 : Sem sig := 0

abbrev nD : Nat := 4
abbrev τ : Topo := Topo.v7x

variable {F : FTy → Type} [FloatOps F]

abbrev grid0 : Pipeline.Grid := ⟨2, ![4, 8], ![false, false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_dev1 (v0 : BitVec 32) : Nat :=
  let c0_i32_51 : BitVec 32 := 0#32
  let c1_i32_42 : BitVec 32 := 1#32
  let v83 : BitVec 32 := Scalar.addi v0 c1_i32_42
  let c4_i32_43 : BitVec 32 := 4#32
  let c0_i32_44 : BitVec 32 := 0#32
  let v84 : BitVec 1 := Scalar.cmpi .eq c4_i32_43 c0_i32_44
  let c1_i32_45 : BitVec 32 := 1#32
  let v85 : BitVec 32 := Scalar.select v84 c1_i32_45 c4_i32_43
  let v86 : BitVec 32 := Scalar.remsi v83 v85
  let c0_i32_47 : BitVec 32 := 0#32
  let v88 : BitVec 1 := Scalar.cmpi .slt v86 c0_i32_47
  let c0_i32_48 : BitVec 32 := 0#32
  let v89 : BitVec 1 := Scalar.cmpi .slt v85 c0_i32_48
  let v90 : BitVec 1 := Scalar.xori v88 v89
  let c0_i32_46 : BitVec 32 := 0#32
  let v87 : BitVec 1 := Scalar.cmpi .ne v86 c0_i32_46
  let v91 : BitVec 1 := Scalar.andi v90 v87
  let v92 : BitVec 32 := Scalar.addi v86 v85
  let v93 : BitVec 32 := Scalar.select v91 v92 v86
  let c1_i32_50 : BitVec 32 := 1#32
  let v94 : BitVec 32 := Scalar.muli v93 c1_i32_50
  let v95 : BitVec 32 := Scalar.addi c0_i32_51 v94
  v95.toNat

def k0_dev2 (v0 : BitVec 32) : Nat :=
  let c0_i32_61 : BitVec 32 := 0#32
  let c2_i32_52 : BitVec 32 := 2#32
  let v96 : BitVec 32 := Scalar.addi v0 c2_i32_52
  let c4_i32_53 : BitVec 32 := 4#32
  let c0_i32_54 : BitVec 32 := 0#32
  let v97 : BitVec 1 := Scalar.cmpi .eq c4_i32_53 c0_i32_54
  let c1_i32_55 : BitVec 32 := 1#32
  let v98 : BitVec 32 := Scalar.select v97 c1_i32_55 c4_i32_53
  let v99 : BitVec 32 := Scalar.remsi v96 v98
  let c0_i32_57 : BitVec 32 := 0#32
  let v101 : BitVec 1 := Scalar.cmpi .slt v99 c0_i32_57
  let c0_i32_58 : BitVec 32 := 0#32
  let v102 : BitVec 1 := Scalar.cmpi .slt v98 c0_i32_58
  let v103 : BitVec 1 := Scalar.xori v101 v102
  let c0_i32_56 : BitVec 32 := 0#32
  let v100 : BitVec 1 := Scalar.cmpi .ne v99 c0_i32_56
  let v104 : BitVec 1 := Scalar.andi v103 v100
  let v105 : BitVec 32 := Scalar.addi v99 v98
  let v106 : BitVec 32 := Scalar.select v104 v105 v99
  let c1_i32_60 : BitVec 32 := 1#32
  let v107 : BitVec 32 := Scalar.muli v106 c1_i32_60
  let v108 : BitVec 32 := Scalar.addi c0_i32_61 v107
  v108.toNat
def k0_dev3 (v0 : BitVec 32) : Nat :=
  let c0_i32_71 : BitVec 32 := 0#32
  let c3_i32_62 : BitVec 32 := 3#32
  let v109 : BitVec 32 := Scalar.addi v0 c3_i32_62
  let c4_i32_63 : BitVec 32 := 4#32
  let c0_i32_64 : BitVec 32 := 0#32
  let v110 : BitVec 1 := Scalar.cmpi .eq c4_i32_63 c0_i32_64
  let c1_i32_65 : BitVec 32 := 1#32
  let v111 : BitVec 32 := Scalar.select v110 c1_i32_65 c4_i32_63
  let v112 : BitVec 32 := Scalar.remsi v109 v111
  let c0_i32_67 : BitVec 32 := 0#32
  let v114 : BitVec 1 := Scalar.cmpi .slt v112 c0_i32_67
  let c0_i32_68 : BitVec 32 := 0#32
  let v115 : BitVec 1 := Scalar.cmpi .slt v111 c0_i32_68
  let v116 : BitVec 1 := Scalar.xori v114 v115
  let c0_i32_66 : BitVec 32 := 0#32
  let v113 : BitVec 1 := Scalar.cmpi .ne v112 c0_i32_66
  let v117 : BitVec 1 := Scalar.andi v116 v113
  let v118 : BitVec 32 := Scalar.addi v112 v111
  let v119 : BitVec 32 := Scalar.select v117 v118 v112
  let c1_i32_70 : BitVec 32 := 1#32
  let v120 : BitVec 32 := Scalar.muli v119 c1_i32_70
  let v121 : BitVec 32 := Scalar.addi c0_i32_71 v120
  v121.toNat
def k0_off2 (v0 : BitVec 32) (c1_i32_73 : BitVec 32) : Fin 2 → Nat :=
  let v122 : BitVec 32 := Scalar.addi v0 c1_i32_73
  let c4_i32_74 : BitVec 32 := 4#32
  let c0_i32_75 : BitVec 32 := 0#32
  let v123 : BitVec 1 := Scalar.cmpi .eq c4_i32_74 c0_i32_75
  let c1_i32_76 : BitVec 32 := 1#32
  let v124 : BitVec 32 := Scalar.select v123 c1_i32_76 c4_i32_74
  let v125 : BitVec 32 := Scalar.remsi v122 v124
  let c0_i32_78 : BitVec 32 := 0#32
  let v127 : BitVec 1 := Scalar.cmpi .slt v125 c0_i32_78
  let c0_i32_79 : BitVec 32 := 0#32
  let v128 : BitVec 1 := Scalar.cmpi .slt v124 c0_i32_79
  let v129 : BitVec 1 := Scalar.xori v127 v128
  let c0_i32_77 : BitVec 32 := 0#32
  let v126 : BitVec 1 := Scalar.cmpi .ne v125 c0_i32_77
  let v130 : BitVec 1 := Scalar.andi v129 v126
  let v131 : BitVec 32 := Scalar.addi v125 v124
  let v132 : BitVec 32 := Scalar.select v130 v131 v125
  let c1024_i32_101 : BitVec 32 := 1024#32
  let v166 : BitVec 32 := Scalar.muli v132 c1024_i32_101
  let c0_i32_106 : BitVec 32 := 0#32
  ![v166.toNat, 0]
def k0_off3 (v0 : BitVec 32) (c1_i32_73 : BitVec 32) : Fin 3 → Nat :=
  let v122 : BitVec 32 := Scalar.addi v0 c1_i32_73
  let c4_i32_74 : BitVec 32 := 4#32
  let c0_i32_75 : BitVec 32 := 0#32
  let v123 : BitVec 1 := Scalar.cmpi .eq c4_i32_74 c0_i32_75
  let c1_i32_76 : BitVec 32 := 1#32
  let v124 : BitVec 32 := Scalar.select v123 c1_i32_76 c4_i32_74
  let v125 : BitVec 32 := Scalar.remsi v122 v124
  let c0_i32_78 : BitVec 32 := 0#32
  let v127 : BitVec 1 := Scalar.cmpi .slt v125 c0_i32_78
  let c0_i32_79 : BitVec 32 := 0#32
  let v128 : BitVec 1 := Scalar.cmpi .slt v124 c0_i32_79
  let v129 : BitVec 1 := Scalar.xori v127 v128
  let c0_i32_77 : BitVec 32 := 0#32
  let v126 : BitVec 1 := Scalar.cmpi .ne v125 c0_i32_77
  let v130 : BitVec 1 := Scalar.andi v129 v126
  let v131 : BitVec 32 := Scalar.addi v125 v124
  let v132 : BitVec 32 := Scalar.select v130 v131 v125
  let v187 : Index := Scalar.indexCast v132
  let c0_122 : Index := 0#32
  let c0_123 : Index := 0#32
  ![v187.toNat, 0, 0]
def k0_off4 (v0 : BitVec 32) : Fin 1 → Nat :=
  ![v0.toNat]
def k0_off5 (v0 : BitVec 32) : Fin 3 → Nat :=
  let c0_i32_127 : BitVec 32 := 0#32
  let c0_i32_128 : BitVec 32 := 0#32
  ![v0.toNat, 0, 0]
def k0_off6 (v0 : BitVec 32) (c1_i32_73 : BitVec 32) : Fin 3 → Nat :=
  let v122 : BitVec 32 := Scalar.addi v0 c1_i32_73
  let c4_i32_74 : BitVec 32 := 4#32
  let c0_i32_75 : BitVec 32 := 0#32
  let v123 : BitVec 1 := Scalar.cmpi .eq c4_i32_74 c0_i32_75
  let c1_i32_76 : BitVec 32 := 1#32
  let v124 : BitVec 32 := Scalar.select v123 c1_i32_76 c4_i32_74
  let v125 : BitVec 32 := Scalar.remsi v122 v124
  let c0_i32_78 : BitVec 32 := 0#32
  let v127 : BitVec 1 := Scalar.cmpi .slt v125 c0_i32_78
  let c0_i32_79 : BitVec 32 := 0#32
  let v128 : BitVec 1 := Scalar.cmpi .slt v124 c0_i32_79
  let v129 : BitVec 1 := Scalar.xori v127 v128
  let c0_i32_77 : BitVec 32 := 0#32
  let v126 : BitVec 1 := Scalar.cmpi .ne v125 c0_i32_77
  let v130 : BitVec 1 := Scalar.andi v129 v126
  let v131 : BitVec 32 := Scalar.addi v125 v124
  let v132 : BitVec 32 := Scalar.select v130 v131 v125
  let c0_i32_129 : BitVec 32 := 0#32
  let c0_i32_130 : BitVec 32 := 0#32
  ![v132.toNat, 0, 0]
def k0_dev4 (v0 : BitVec 32) : Nat :=
  let c0_i32_126 : BitVec 32 := 0#32
  let c1_i32_73 : BitVec 32 := 1#32
  let v122 : BitVec 32 := Scalar.addi v0 c1_i32_73
  let c4_i32_74 : BitVec 32 := 4#32
  let c0_i32_75 : BitVec 32 := 0#32
  let v123 : BitVec 1 := Scalar.cmpi .eq c4_i32_74 c0_i32_75
  let c1_i32_76 : BitVec 32 := 1#32
  let v124 : BitVec 32 := Scalar.select v123 c1_i32_76 c4_i32_74
  let v125 : BitVec 32 := Scalar.remsi v122 v124
  let c0_i32_78 : BitVec 32 := 0#32
  let v127 : BitVec 1 := Scalar.cmpi .slt v125 c0_i32_78
  let c0_i32_79 : BitVec 32 := 0#32
  let v128 : BitVec 1 := Scalar.cmpi .slt v124 c0_i32_79
  let v129 : BitVec 1 := Scalar.xori v127 v128
  let c0_i32_77 : BitVec 32 := 0#32
  let v126 : BitVec 1 := Scalar.cmpi .ne v125 c0_i32_77
  let v130 : BitVec 1 := Scalar.andi v129 v126
  let v131 : BitVec 32 := Scalar.addi v125 v124
  let v132 : BitVec 32 := Scalar.select v130 v131 v125
  let c1_i32_125 : BitVec 32 := 1#32
  let v191 : BitVec 32 := Scalar.muli v132 c1_i32_125
  let v192 : BitVec 32 := Scalar.addi c0_i32_126 v191
  v192.toNat
def k0_off7 (v0 : BitVec 32) : Fin 3 → Nat :=
  let v220 : Index := Scalar.indexCast v0
  let c0_147 : Index := 0#32
  let c0_148 : Index := 0#32
  ![v220.toNat, 0, 0]
def k0_dev5 (v0 : BitVec 32) : Nat :=
  let c0_i32_170 : BitVec 32 := 0#32
  let c3_i32_87 : BitVec 32 := 3#32
  let v144 : BitVec 32 := Scalar.addi v0 c3_i32_87
  let c4_i32_88 : BitVec 32 := 4#32
  let c0_i32_89 : BitVec 32 := 0#32
  let v145 : BitVec 1 := Scalar.cmpi .eq c4_i32_88 c0_i32_89
  let c1_i32_90 : BitVec 32 := 1#32
  let v146 : BitVec 32 := Scalar.select v145 c1_i32_90 c4_i32_88
  let v147 : BitVec 32 := Scalar.remsi v144 v146
  let c0_i32_92 : BitVec 32 := 0#32
  let v149 : BitVec 1 := Scalar.cmpi .slt v147 c0_i32_92
  let c0_i32_93 : BitVec 32 := 0#32
  let v150 : BitVec 1 := Scalar.cmpi .slt v146 c0_i32_93
  let v151 : BitVec 1 := Scalar.xori v149 v150
  let c0_i32_91 : BitVec 32 := 0#32
  let v148 : BitVec 1 := Scalar.cmpi .ne v147 c0_i32_91
  let v152 : BitVec 1 := Scalar.andi v151 v148
  let v153 : BitVec 32 := Scalar.addi v147 v146
  let v154 : BitVec 32 := Scalar.select v152 v153 v147
  let c1_i32_169 : BitVec 32 := 1#32
  let v246 : BitVec 32 := Scalar.muli v154 c1_i32_169
  let v247 : BitVec 32 := Scalar.addi c0_i32_170 v246
  v247.toNat
def k0_dev6 (v0 : BitVec 32) : Nat :=
  let c0_i32_188 : BitVec 32 := 0#32
  let c2_i32_94 : BitVec 32 := 2#32
  let v155 : BitVec 32 := Scalar.addi v0 c2_i32_94
  let c4_i32_95 : BitVec 32 := 4#32
  let c0_i32_96 : BitVec 32 := 0#32
  let v156 : BitVec 1 := Scalar.cmpi .eq c4_i32_95 c0_i32_96
  let c1_i32_97 : BitVec 32 := 1#32
  let v157 : BitVec 32 := Scalar.select v156 c1_i32_97 c4_i32_95
  let v158 : BitVec 32 := Scalar.remsi v155 v157
  let c0_i32_99 : BitVec 32 := 0#32
  let v160 : BitVec 1 := Scalar.cmpi .slt v158 c0_i32_99
  let c0_i32_100 : BitVec 32 := 0#32
  let v161 : BitVec 1 := Scalar.cmpi .slt v157 c0_i32_100
  let v162 : BitVec 1 := Scalar.xori v160 v161
  let c0_i32_98 : BitVec 32 := 0#32
  let v159 : BitVec 1 := Scalar.cmpi .ne v158 c0_i32_98
  let v163 : BitVec 1 := Scalar.andi v162 v159
  let v164 : BitVec 32 := Scalar.addi v158 v157
  let v165 : BitVec 32 := Scalar.select v163 v164 v158
  let c1_i32_187 : BitVec 32 := 1#32
  let v269 : BitVec 32 := Scalar.muli v165 c1_i32_187
  let v270 : BitVec 32 := Scalar.addi c0_i32_188 v269
  v270.toNat
def k0_cond2 (i : grid0.Coords) : BitVec 1 :=
  let arg1 : BitVec 32 := BitVec.ofNat 32 (i 1).val
  let c0_i32_2 : BitVec 32 := 0#32
  let v8 : BitVec 1 := Scalar.cmpi .eq arg1 c0_i32_2
  let arg0 : BitVec 32 := BitVec.ofNat 32 (i 0).val
  let c0_i32_3 : BitVec 32 := 0#32
  let v9 : BitVec 1 := Scalar.cmpi .sgt arg0 c0_i32_3
  let v10 : BitVec 1 := Scalar.andi v8 v9
  let v11 : BitVec 32 := Scalar.extui v10
  let c0_i32_4 : BitVec 32 := 0#32
  let v12 : BitVec 1 := Scalar.cmpi .ne v11 c0_i32_4
  v12

def k0_off8 (v2 : BitVec 32) : Fin 1 → Nat :=
  ![v2.toNat]

def k0_off9 (v2 : BitVec 32) : Fin 3 → Nat :=
  let c0_i32_47 : BitVec 32 := 0#32
  let c0_i32_48 : BitVec 32 := 0#32
  ![v2.toNat, 0, 0]
def k0_cond3 (i : grid0.Coords) : BitVec 1 :=
  let arg1 : BitVec 32 := BitVec.ofNat 32 (i 1).val
  let c0_i32_5 : BitVec 32 := 0#32
  let v13 : BitVec 1 := Scalar.cmpi .eq arg1 c0_i32_5
  let v14 : BitVec 32 := Scalar.extui v13
  let c0_i32_6 : BitVec 32 := 0#32
  let v15 : BitVec 1 := Scalar.cmpi .ne v14 c0_i32_6
  v15

def k0_off10 (v2 : BitVec 32) : Fin 3 → Nat :=
  let v82 : Index := Scalar.indexCast v2
  let c0_42 : Index := 0#32
  let c0_43 : Index := 0#32
  ![v82.toNat, 0, 0]

def k0_chk2 (i : grid0.Coords) (v2 : BitVec 32) : Prop :=
  (∀ (k0_h2 : k0_cond2 i = 1#1), ∀ a, (k0_off8 v2) a + S1.size a ≤ S4.size a) ∧
  (∀ (k0_h2 : k0_cond2 i = 1#1), ∀ a, (k0_off9 v2) a + S1x1024x1024.size a ≤ S4x1024x1024.size a) ∧
  (∀ (k0_h2 : k0_cond2 i = 1#1), ∀ (hinb : ∀ a, (k0_off9 v2) a + S1x1024x1024.size a ≤ S4x1024x1024.size a), (Rect.unit (s := S4x1024x1024) (k0_off9 v2) S1x1024x1024.size hinb).WholeWords (EltTy.packing .fp8e5m2)) ∧
  (∀ (k0_h3 : k0_cond3 i = 1#1), ∀ a, (k0_off10 v2) a + S1x1024x1024.size a ≤ S4x1024x1024.size a)
theorem k0_off8_inb : ∀ (i : grid0.Coords) (v2 : BitVec 32) (k0_hw2 : k0_chk2 i v2), ∀ (k0_h2 : k0_cond2 i = 1#1), ∀ a, (k0_off8 v2) a + S1.size a ≤ S4.size a := fun i v2 k0_hw2 k0_h2 => k0_hw2.1 k0_h2
theorem k0_off9_inb : ∀ (i : grid0.Coords) (v2 : BitVec 32) (k0_hw2 : k0_chk2 i v2), ∀ (k0_h2 : k0_cond2 i = 1#1), ∀ a, (k0_off9 v2) a + S1x1024x1024.size a ≤ S4x1024x1024.size a := fun i v2 k0_hw2 k0_h2 => k0_hw2.2.1 k0_h2
theorem k0_off9_wordsfp8e5m2 : ∀ (i : grid0.Coords) (v2 : BitVec 32) (k0_hw2 : k0_chk2 i v2), ∀ (k0_h2 : k0_cond2 i = 1#1), (Rect.unit (s := S4x1024x1024) (k0_off9 v2) S1x1024x1024.size (k0_off9_inb i v2 k0_hw2 k0_h2)).WholeWords (EltTy.packing .fp8e5m2) := fun i v2 k0_hw2 k0_h2 => k0_hw2.2.2.1 k0_h2 (k0_off9_inb i v2 k0_hw2 k0_h2)
theorem k0_off10_inb : ∀ (i : grid0.Coords) (v2 : BitVec 32) (k0_hw2 : k0_chk2 i v2), ∀ (k0_h3 : k0_cond3 i = 1#1), ∀ a, (k0_off10 v2) a + S1x1024x1024.size a ≤ S4x1024x1024.size a := fun i v2 k0_hw2 k0_h3 => k0_hw2.2.2.2 k0_h3

def k0_cond4 (i : grid0.Coords) : BitVec 1 :=
  let arg0 : BitVec 32 := BitVec.ofNat 32 (i 0).val
  let c0_i32_15 : BitVec 32 := 0#32
  let v26 : BitVec 1 := Scalar.cmpi .eq arg0 c0_i32_15
  let v27 : BitVec 32 := Scalar.extui v26
  let c0_i32_16 : BitVec 32 := 0#32
  let v28 : BitVec 1 := Scalar.cmpi .ne v27 c0_i32_16
  v28

def k0_off11 (i : grid0.Coords) : Fin 2 → Nat :=
  let c0_42 : Index := 0#32
  let arg1 : BitVec 32 := BitVec.ofNat 32 (i 1).val
  let c1024_i32 : BitVec 32 := 1024#32
  let v25 : BitVec 32 := Scalar.muli arg1 c1024_i32
  let v82 : Index := Scalar.indexCast v25
  ![0, v82.toNat]
def k0_cond5 (i : grid0.Coords) : BitVec 1 :=
  let arg0 : BitVec 32 := BitVec.ofNat 32 (i 0).val
  let c0_i32_17 : BitVec 32 := 0#32
  let v29 : BitVec 1 := Scalar.cmpi .sgt arg0 c0_i32_17
  let c3_i32 : BitVec 32 := 3#32
  let v30 : BitVec 1 := Scalar.cmpi .slt arg0 c3_i32
  let v31 : BitVec 1 := Scalar.andi v29 v30
  let v32 : BitVec 32 := Scalar.extui v31
  let c0_i32_18 : BitVec 32 := 0#32
  let v33 : BitVec 1 := Scalar.cmpi .ne v32 c0_i32_18
  v33

def k0_off12 (i : grid0.Coords) : Fin 2 → Nat :=
  let c0_42 : Index := 0#32
  let arg1 : BitVec 32 := BitVec.ofNat 32 (i 1).val
  let c1024_i32 : BitVec 32 := 1024#32
  let v25 : BitVec 32 := Scalar.muli arg1 c1024_i32
  let v82 : Index := Scalar.indexCast v25
  ![0, v82.toNat]
def k0_cond6 (i : grid0.Coords) : BitVec 1 :=
  let arg0 : BitVec 32 := BitVec.ofNat 32 (i 0).val
  let c3_i32_19 : BitVec 32 := 3#32
  let v34 : BitVec 1 := Scalar.cmpi .eq arg0 c3_i32_19
  let v35 : BitVec 32 := Scalar.extui v34
  let c0_i32_20 : BitVec 32 := 0#32
  let v36 : BitVec 1 := Scalar.cmpi .ne v35 c0_i32_20
  v36

def k0_off13 (i : grid0.Coords) : Fin 2 → Nat :=
  let c0_42 : Index := 0#32
  let arg1 : BitVec 32 := BitVec.ofNat 32 (i 1).val
  let c1024_i32 : BitVec 32 := 1024#32
  let v25 : BitVec 32 := Scalar.muli arg1 c1024_i32
  let v82 : Index := Scalar.indexCast v25
  ![0, v82.toNat]
def k0_cond15 (i : grid0.Coords) : BitVec 1 :=
  let arg0 : BitVec 32 := BitVec.ofNat 32 (i 0).val
  let c3_i32_39 : BitVec 32 := 3#32
  let v77 : BitVec 1 := Scalar.cmpi .eq arg0 c3_i32_39
  let arg1 : BitVec 32 := BitVec.ofNat 32 (i 1).val
  let c7_i32_40 : BitVec 32 := 7#32
  let v78 : BitVec 1 := Scalar.cmpi .eq arg1 c7_i32_40
  let v79 : BitVec 1 := Scalar.andi v77 v78
  let v80 : BitVec 32 := Scalar.extui v79
  let c0_i32_41 : BitVec 32 := 0#32
  let v81 : BitVec 1 := Scalar.cmpi .ne v80 c0_i32_41
  v81

def k0_dev7 (v0 : BitVec 32) : Nat :=
  let c0_i32_115_r0 : BitVec 32 := 0#32
  let c1_i32_106_r0 : BitVec 32 := 1#32
  let v133_r0 : BitVec 32 := Scalar.addi v0 c1_i32_106_r0
  let c4_i32_107_r0 : BitVec 32 := 4#32
  let c0_i32_108_r0 : BitVec 32 := 0#32
  let v134_r0 : BitVec 1 := Scalar.cmpi .eq c4_i32_107_r0 c0_i32_108_r0
  let c1_i32_109_r0 : BitVec 32 := 1#32
  let v135_r0 : BitVec 32 := Scalar.select v134_r0 c1_i32_109_r0 c4_i32_107_r0
  let v136_r0 : BitVec 32 := Scalar.remsi v133_r0 v135_r0
  let c0_i32_111_r0 : BitVec 32 := 0#32
  let v138_r0 : BitVec 1 := Scalar.cmpi .slt v136_r0 c0_i32_111_r0
  let c0_i32_112_r0 : BitVec 32 := 0#32
  let v139_r0 : BitVec 1 := Scalar.cmpi .slt v135_r0 c0_i32_112_r0
  let v140_r0 : BitVec 1 := Scalar.xori v138_r0 v139_r0
  let c0_i32_110_r0 : BitVec 32 := 0#32
  let v137_r0 : BitVec 1 := Scalar.cmpi .ne v136_r0 c0_i32_110_r0
  let v141_r0 : BitVec 1 := Scalar.andi v140_r0 v137_r0
  let v142_r0 : BitVec 32 := Scalar.addi v136_r0 v135_r0
  let v143_r0 : BitVec 32 := Scalar.select v141_r0 v142_r0 v136_r0
  let c1_i32_114_r0 : BitVec 32 := 1#32
  let v144_r0 : BitVec 32 := Scalar.muli v143_r0 c1_i32_114_r0
  let v145_r0 : BitVec 32 := Scalar.addi c0_i32_115_r0 v144_r0
  v145_r0.toNat
def k0_dev8 (v0 : BitVec 32) : Nat :=
  let c0_i32_125_r0 : BitVec 32 := 0#32
  let c2_i32_116_r0 : BitVec 32 := 2#32
  let v146_r0 : BitVec 32 := Scalar.addi v0 c2_i32_116_r0
  let c4_i32_117_r0 : BitVec 32 := 4#32
  let c0_i32_118_r0 : BitVec 32 := 0#32
  let v147_r0 : BitVec 1 := Scalar.cmpi .eq c4_i32_117_r0 c0_i32_118_r0
  let c1_i32_119_r0 : BitVec 32 := 1#32
  let v148_r0 : BitVec 32 := Scalar.select v147_r0 c1_i32_119_r0 c4_i32_117_r0
  let v149_r0 : BitVec 32 := Scalar.remsi v146_r0 v148_r0
  let c0_i32_121_r0 : BitVec 32 := 0#32
  let v151_r0 : BitVec 1 := Scalar.cmpi .slt v149_r0 c0_i32_121_r0
  let c0_i32_122_r0 : BitVec 32 := 0#32
  let v152_r0 : BitVec 1 := Scalar.cmpi .slt v148_r0 c0_i32_122_r0
  let v153_r0 : BitVec 1 := Scalar.xori v151_r0 v152_r0
  let c0_i32_120_r0 : BitVec 32 := 0#32
  let v150_r0 : BitVec 1 := Scalar.cmpi .ne v149_r0 c0_i32_120_r0
  let v154_r0 : BitVec 1 := Scalar.andi v153_r0 v150_r0
  let v155_r0 : BitVec 32 := Scalar.addi v149_r0 v148_r0
  let v156_r0 : BitVec 32 := Scalar.select v154_r0 v155_r0 v149_r0
  let c1_i32_124_r0 : BitVec 32 := 1#32
  let v157_r0 : BitVec 32 := Scalar.muli v156_r0 c1_i32_124_r0
  let v158_r0 : BitVec 32 := Scalar.addi c0_i32_125_r0 v157_r0
  v158_r0.toNat
def k0_dev9 (v0 : BitVec 32) : Nat :=
  let c0_i32_135_r0 : BitVec 32 := 0#32
  let c3_i32_126_r0 : BitVec 32 := 3#32
  let v159_r0 : BitVec 32 := Scalar.addi v0 c3_i32_126_r0
  let c4_i32_127_r0 : BitVec 32 := 4#32
  let c0_i32_128_r0 : BitVec 32 := 0#32
  let v160_r0 : BitVec 1 := Scalar.cmpi .eq c4_i32_127_r0 c0_i32_128_r0
  let c1_i32_129_r0 : BitVec 32 := 1#32
  let v161_r0 : BitVec 32 := Scalar.select v160_r0 c1_i32_129_r0 c4_i32_127_r0
  let v162_r0 : BitVec 32 := Scalar.remsi v159_r0 v161_r0
  let c0_i32_131_r0 : BitVec 32 := 0#32
  let v164_r0 : BitVec 1 := Scalar.cmpi .slt v162_r0 c0_i32_131_r0
  let c0_i32_132_r0 : BitVec 32 := 0#32
  let v165_r0 : BitVec 1 := Scalar.cmpi .slt v161_r0 c0_i32_132_r0
  let v166_r0 : BitVec 1 := Scalar.xori v164_r0 v165_r0
  let c0_i32_130_r0 : BitVec 32 := 0#32
  let v163_r0 : BitVec 1 := Scalar.cmpi .ne v162_r0 c0_i32_130_r0
  let v167_r0 : BitVec 1 := Scalar.andi v166_r0 v163_r0
  let v168_r0 : BitVec 32 := Scalar.addi v162_r0 v161_r0
  let v169_r0 : BitVec 32 := Scalar.select v167_r0 v168_r0 v162_r0
  let c1_i32_134_r0 : BitVec 32 := 1#32
  let v170_r0 : BitVec 32 := Scalar.muli v169_r0 c1_i32_134_r0
  let v171_r0 : BitVec 32 := Scalar.addi c0_i32_135_r0 v170_r0
  v171_r0.toNat

def k0_chk1 (i : grid0.Coords) (v0 : BitVec 32) : Prop :=
  (∀ (k0_h1 : k0_cond1 i = 1#1), (k0_dev1 v0) < nD) ∧
  (∀ (k0_h1 : k0_cond1 i = 1#1), (k0_dev2 v0) < nD) ∧
  (∀ (k0_h1 : k0_cond1 i = 1#1), (k0_dev3 v0) < nD) ∧
  (∀ (k0_h1 : k0_cond1 i = 1#1), ∀ (r : Fin 4), ∀ a, (k0_off2 v0 (BitVec.ofNat 32 r.val)) a + S1024x1024.size a ≤ S4096x1024.size a) ∧
  (∀ (k0_h1 : k0_cond1 i = 1#1), ∀ (r : Fin 4), ∀ a, (k0_off3 v0 (BitVec.ofNat 32 r.val)) a + S1x1024x1024.size a ≤ S4x1024x1024.size a) ∧
  (∀ (k0_h1 : k0_cond1 i = 1#1), ∀ (r : Fin 4), ∀ (hinb : ∀ a, (k0_off3 v0 (BitVec.ofNat 32 r.val)) a + S1x1024x1024.size a ≤ S4x1024x1024.size a), (Rect.unit (s := S4x1024x1024) (k0_off3 v0 (BitVec.ofNat 32 r.val)) S1x1024x1024.size hinb).PackedRows (EltTy.packing .fp8e5m2)) ∧
  (∀ (k0_h1 : k0_cond1 i = 1#1), ∀ a, (k0_off4 v0) a + S1.size a ≤ S4.size a) ∧
  (∀ (k0_h1 : k0_cond1 i = 1#1), ∀ a, (k0_off5 v0) a + S1x1024x1024.size a ≤ S4x1024x1024.size a) ∧
  (∀ (k0_h1 : k0_cond1 i = 1#1), ∀ (r : Fin 3), ∀ a, (k0_off6 v0 (BitVec.ofNat 32 (1 + r.val))) a + S1x1024x1024.size a ≤ S4x1024x1024.size a) ∧
  (∀ (k0_h1 : k0_cond1 i = 1#1), ∀ (r : Fin 3), ∀ (hinb : ∀ a, (k0_off6 v0 (BitVec.ofNat 32 (1 + r.val))) a + S1x1024x1024.size a ≤ S4x1024x1024.size a), (Rect.unit (s := S4x1024x1024) (k0_off6 v0 (BitVec.ofNat 32 (1 + r.val))) S1x1024x1024.size hinb).WholeWords (EltTy.packing .fp8e5m2)) ∧
  (∀ (k0_h1 : k0_cond1 i = 1#1), ∀ (hinb : ∀ a, (k0_off5 v0) a + S1x1024x1024.size a ≤ S4x1024x1024.size a), (Rect.unit (s := S4x1024x1024) (k0_off5 v0) S1x1024x1024.size hinb).WholeWords (EltTy.packing .fp8e5m2)) ∧
  (∀ (k0_h1 : k0_cond1 i = 1#1), (k0_dev4 v0) < nD) ∧
  (∀ (k0_h1 : k0_cond1 i = 1#1), ∀ a, (k0_off7 v0) a + S1x1024x1024.size a ≤ S4x1024x1024.size a) ∧
  (∀ (k0_h1 : k0_cond1 i = 1#1), ∀ (hinb : ∀ a, (k0_off7 v0) a + S1x1024x1024.size a ≤ S4x1024x1024.size a), (Rect.unit (s := S4x1024x1024) (k0_off7 v0) S1x1024x1024.size hinb).PackedRows (EltTy.packing .fp8e5m2)) ∧
  (∀ (k0_h1 : k0_cond1 i = 1#1), (k0_dev5 v0) < nD) ∧
  (∀ (k0_h1 : k0_cond1 i = 1#1), (k0_dev6 v0) < nD) ∧
  (∀ (k0_h15 : k0_cond15 i = 1#1), (k0_dev7 v0) < nD) ∧
  (∀ (k0_h15 : k0_cond15 i = 1#1), (k0_dev8 v0) < nD) ∧
  (∀ (k0_h15 : k0_cond15 i = 1#1), (k0_dev9 v0) < nD)
theorem k0_dev1_lt : ∀ (i : grid0.Coords) (v0 : BitVec 32) (k0_hw1 : k0_chk1 i v0), ∀ (k0_h1 : k0_cond1 i = 1#1), (k0_dev1 v0) < nD := fun i v0 k0_hw1 k0_h1 => k0_hw1.1 k0_h1
theorem k0_dev2_lt : ∀ (i : grid0.Coords) (v0 : BitVec 32) (k0_hw1 : k0_chk1 i v0), ∀ (k0_h1 : k0_cond1 i = 1#1), (k0_dev2 v0) < nD := fun i v0 k0_hw1 k0_h1 => k0_hw1.2.1 k0_h1
theorem k0_dev3_lt : ∀ (i : grid0.Coords) (v0 : BitVec 32) (k0_hw1 : k0_chk1 i v0), ∀ (k0_h1 : k0_cond1 i = 1#1), (k0_dev3 v0) < nD := fun i v0 k0_hw1 k0_h1 => k0_hw1.2.2.1 k0_h1
theorem k0_off2_inb : ∀ (i : grid0.Coords) (v0 : BitVec 32) (k0_hw1 : k0_chk1 i v0), ∀ (k0_h1 : k0_cond1 i = 1#1), ∀ (r : Fin 4), ∀ a, (k0_off2 v0 (BitVec.ofNat 32 r.val)) a + S1024x1024.size a ≤ S4096x1024.size a := fun i v0 k0_hw1 k0_h1 r => k0_hw1.2.2.2.1 k0_h1 r
theorem k0_off3_inb : ∀ (i : grid0.Coords) (v0 : BitVec 32) (k0_hw1 : k0_chk1 i v0), ∀ (k0_h1 : k0_cond1 i = 1#1), ∀ (r : Fin 4), ∀ a, (k0_off3 v0 (BitVec.ofNat 32 r.val)) a + S1x1024x1024.size a ≤ S4x1024x1024.size a := fun i v0 k0_hw1 k0_h1 r => k0_hw1.2.2.2.2.1 k0_h1 r
theorem k0_off3_packedfp8e5m2 : ∀ (i : grid0.Coords) (v0 : BitVec 32) (k0_hw1 : k0_chk1 i v0), ∀ (k0_h1 : k0_cond1 i = 1#1), ∀ (r : Fin 4), (Rect.unit (s := S4x1024x1024) (k0_off3 v0 (BitVec.ofNat 32 r.val)) S1x1024x1024.size (k0_off3_inb i v0 k0_hw1 k0_h1 r)).PackedRows (EltTy.packing .fp8e5m2) := fun i v0 k0_hw1 k0_h1 r => k0_hw1.2.2.2.2.2.1 k0_h1 r (k0_off3_inb i v0 k0_hw1 k0_h1 r)
theorem k0_off4_inb : ∀ (i : grid0.Coords) (v0 : BitVec 32) (k0_hw1 : k0_chk1 i v0), ∀ (k0_h1 : k0_cond1 i = 1#1), ∀ a, (k0_off4 v0) a + S1.size a ≤ S4.size a := fun i v0 k0_hw1 k0_h1 => k0_hw1.2.2.2.2.2.2.1 k0_h1
theorem k0_off5_inb : ∀ (i : grid0.Coords) (v0 : BitVec 32) (k0_hw1 : k0_chk1 i v0), ∀ (k0_h1 : k0_cond1 i = 1#1), ∀ a, (k0_off5 v0) a + S1x1024x1024.size a ≤ S4x1024x1024.size a := fun i v0 k0_hw1 k0_h1 => k0_hw1.2.2.2.2.2.2.2.1 k0_h1
theorem k0_off6_inb : ∀ (i : grid0.Coords) (v0 : BitVec 32) (k0_hw1 : k0_chk1 i v0), ∀ (k0_h1 : k0_cond1 i = 1#1), ∀ (r : Fin 3), ∀ a, (k0_off6 v0 (BitVec.ofNat 32 (1 + r.val))) a + S1x1024x1024.size a ≤ S4x1024x1024.size a := fun i v0 k0_hw1 k0_h1 r => k0_hw1.2.2.2.2.2.2.2.2.1 k0_h1 r
theorem k0_off6_wordsfp8e5m2 : ∀ (i : grid0.Coords) (v0 : BitVec 32) (k0_hw1 : k0_chk1 i v0), ∀ (k0_h1 : k0_cond1 i = 1#1), ∀ (r : Fin 3), (Rect.unit (s := S4x1024x1024) (k0_off6 v0 (BitVec.ofNat 32 (1 + r.val))) S1x1024x1024.size (k0_off6_inb i v0 k0_hw1 k0_h1 r)).WholeWords (EltTy.packing .fp8e5m2) := fun i v0 k0_hw1 k0_h1 r => k0_hw1.2.2.2.2.2.2.2.2.2.1 k0_h1 r (k0_off6_inb i v0 k0_hw1 k0_h1 r)
theorem k0_off5_wordsfp8e5m2 : ∀ (i : grid0.Coords) (v0 : BitVec 32) (k0_hw1 : k0_chk1 i v0), ∀ (k0_h1 : k0_cond1 i = 1#1), (Rect.unit (s := S4x1024x1024) (k0_off5 v0) S1x1024x1024.size (k0_off5_inb i v0 k0_hw1 k0_h1)).WholeWords (EltTy.packing .fp8e5m2) := fun i v0 k0_hw1 k0_h1 => k0_hw1.2.2.2.2.2.2.2.2.2.2.1 k0_h1 (k0_off5_inb i v0 k0_hw1 k0_h1)
theorem k0_dev4_lt : ∀ (i : grid0.Coords) (v0 : BitVec 32) (k0_hw1 : k0_chk1 i v0), ∀ (k0_h1 : k0_cond1 i = 1#1), (k0_dev4 v0) < nD := fun i v0 k0_hw1 k0_h1 => k0_hw1.2.2.2.2.2.2.2.2.2.2.2.1 k0_h1
theorem k0_off7_inb : ∀ (i : grid0.Coords) (v0 : BitVec 32) (k0_hw1 : k0_chk1 i v0), ∀ (k0_h1 : k0_cond1 i = 1#1), ∀ a, (k0_off7 v0) a + S1x1024x1024.size a ≤ S4x1024x1024.size a := fun i v0 k0_hw1 k0_h1 => k0_hw1.2.2.2.2.2.2.2.2.2.2.2.2.1 k0_h1
theorem k0_off7_packedfp8e5m2 : ∀ (i : grid0.Coords) (v0 : BitVec 32) (k0_hw1 : k0_chk1 i v0), ∀ (k0_h1 : k0_cond1 i = 1#1), (Rect.unit (s := S4x1024x1024) (k0_off7 v0) S1x1024x1024.size (k0_off7_inb i v0 k0_hw1 k0_h1)).PackedRows (EltTy.packing .fp8e5m2) := fun i v0 k0_hw1 k0_h1 => k0_hw1.2.2.2.2.2.2.2.2.2.2.2.2.2.1 k0_h1 (k0_off7_inb i v0 k0_hw1 k0_h1)
theorem k0_dev5_lt : ∀ (i : grid0.Coords) (v0 : BitVec 32) (k0_hw1 : k0_chk1 i v0), ∀ (k0_h1 : k0_cond1 i = 1#1), (k0_dev5 v0) < nD := fun i v0 k0_hw1 k0_h1 => k0_hw1.2.2.2.2.2.2.2.2.2.2.2.2.2.2.1 k0_h1
theorem k0_dev6_lt : ∀ (i : grid0.Coords) (v0 : BitVec 32) (k0_hw1 : k0_chk1 i v0), ∀ (k0_h1 : k0_cond1 i = 1#1), (k0_dev6 v0) < nD := fun i v0 k0_hw1 k0_h1 => k0_hw1.2.2.2.2.2.2.2.2.2.2.2.2.2.2.2.1 k0_h1
theorem k0_dev7_lt : ∀ (i : grid0.Coords) (v0 : BitVec 32) (k0_hw1 : k0_chk1 i v0), ∀ (k0_h15 : k0_cond15 i = 1#1), (k0_dev7 v0) < nD := fun i v0 k0_hw1 k0_h15 => k0_hw1.2.2.2.2.2.2.2.2.2.2.2.2.2.2.2.2.1 k0_h15
theorem k0_dev8_lt : ∀ (i : grid0.Coords) (v0 : BitVec 32) (k0_hw1 : k0_chk1 i v0), ∀ (k0_h15 : k0_cond15 i = 1#1), (k0_dev8 v0) < nD := fun i v0 k0_hw1 k0_h15 => k0_hw1.2.2.2.2.2.2.2.2.2.2.2.2.2.2.2.2.2.1 k0_h15
theorem k0_dev9_lt : ∀ (i : grid0.Coords) (v0 : BitVec 32) (k0_hw1 : k0_chk1 i v0), ∀ (k0_h15 : k0_cond15 i = 1#1), (k0_dev9 v0) < nD := fun i v0 k0_hw1 k0_h15 => k0_hw1.2.2.2.2.2.2.2.2.2.2.2.2.2.2.2.2.2.2 k0_h15

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  ![v1.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Words.lean ====
/- The words a device computes: its neighbours, the slots it fills and drains, and the conditions its
   body tests, in closed form at a symbolic device. -/
module

public import proofs.«01_k».proof.Proof.Gen.KernelIdeal
public import proofs.«01_k».proof.Proof.Gen.KernelIdeal.Launch

@[expose] public section

namespace Cert.KernelIdeal.Ring

open Idealize.ShloMosaic Idealize.SL.Sem
open Cert.KernelIdeal Cert.KernelIdeal.Gen

/-- The device `k` places after `c` on the ring. -/
abbrev at_ (c : Dev nD) (k : Fin 4) : Dev nD := ⟨(c.val + k.val) % 4, Nat.mod_lt _ (by decide)⟩

/-- The order in which a device takes the blocks: its own, its successor's, its predecessor's, the
    opposite one's. -/
def sig_ : Fin 4 → Fin 4 := ![0, 1, 3, 2]

/-- Device `c`'s number as the word its table begins with. -/
abbrev w_ (c : Dev nD) : BitVec 32 := BitVec.ofNat 32 c.val

theorem dev1_eq (c : Dev nD) : k0_dev1 (w_ c) = (at_ c 1).val := by revert c; decide
theorem dev2_eq (c : Dev nD) : k0_dev2 (w_ c) = (at_ c 2).val := by revert c; decide
theorem dev3_eq (c : Dev nD) : k0_dev3 (w_ c) = (at_ c 3).val := by revert c; decide
theorem dev4_eq (c : Dev nD) : k0_dev4 (w_ c) = (at_ c 1).val := by revert c; decide
theorem dev5_eq (c : Dev nD) : k0_dev5 (w_ c) = (at_ c 3).val := by revert c; decide
theorem dev6_eq (c : Dev nD) : k0_dev6 (w_ c) = (at_ c 2).val := by revert c; decide
theorem dev7_eq (c : Dev nD) : k0_dev7 (w_ c) = (at_ c 1).val := by revert c; decide
theorem dev8_eq (c : Dev nD) : k0_dev8 (w_ c) = (at_ c 2).val := by revert c; decide
theorem dev9_eq (c : Dev nD) : k0_dev9 (w_ c) = (at_ c 3).val := by revert c; decide

theorem off2_eq (c : Dev nD) (k : Fin 4) :
    k0_off2 (w_ c) (BitVec.ofNat 32 k.val) = ![1024 * (at_ c k).val, 0] := by revert c k; decide
theorem off3_eq (c : Dev nD) (k : Fin 4) :
    k0_off3 (w_ c) (BitVec.ofNat 32 k.val) = ![(at_ c k).val, 0, 0] := by revert c k; decide
theorem off4_eq (c : Dev nD) : k0_off4 (w_ c) = ![c.val] := by revert c; decide
theorem off5_eq (c : Dev nD) : k0_off5 (w_ c) = ![c.val, 0, 0] := by revert c; decide
theorem off6_eq (c : Dev nD) (k : Fin 4) :
    k0_off6 (w_ c) (BitVec.ofNat 32 k.val) = ![(at_ c k).val, 0, 0] := by revert c k; decide
theorem off7_eq (c : Dev nD) : k0_off7 (w_ c) = ![c.val, 0, 0] := by revert c; decide
theorem off8_eq (b : Dev nD) : k0_off8 (w_ b) = ![b.val] := by revert b; decide
theorem off9_eq (b : Dev nD) : k0_off9 (w_ b) = ![b.val, 0, 0] := by revert b; decide
theorem off10_eq (b : Dev nD) : k0_off10 (w_ b) = ![b.val, 0, 0] := by revert b; decide

theorem chk1_all : ∀ (t : Fin grid0.N) (c : Dev nD), k0_chk1 (grid0.coords t) (w_ c) := by
  decide +kernel
theorem chk2_all : ∀ (t : Fin grid0.N) (c : Dev nD), k0_chk2 (grid0.coords t) (w_ c) := by
  decide +kernel

/-- Step `t` of the grid is block `t / 8`, panel `t % 8`. -/
theorem coords_0 : ∀ t : Fin grid0.N, (grid0.coords t 0).val = t.val / 8 := by decide +kernel
theorem coords_1 : ∀ t : Fin grid0.N, (grid0.coords t 1).val = t.val % 8 := by decide +kernel

theorem cond1_iff : ∀ t : Fin grid0.N, k0_cond1 (grid0.coords t) = 1#1 ↔ t.val = 0 := by
  decide +kernel
theorem cond2_iff : ∀ t : Fin grid0.N,
    k0_cond2 (grid0.coords t) = 1#1 ↔ t.val % 8 = 0 ∧ t.val ≠ 0 := by decide +kernel
theorem cond3_iff : ∀ t : Fin grid0.N, k0_cond3 (grid0.coords t) = 1#1 ↔ t.val % 8 = 0 := by
  decide +kernel
theorem cond4_iff : ∀ t : Fin grid0.N, k0_cond4 (grid0.coords t) = 1#1 ↔ t.val / 8 = 0 := by
  decide +kernel
theorem cond5_iff : ∀ t : Fin grid0.N,
    k0_cond5 (grid0.coords t) = 1#1 ↔ (t.val / 8 = 1 ∨ t.val / 8 = 2) := by decide +kernel
theorem cond6_iff : ∀ t : Fin grid0.N, k0_cond6 (grid0.coords t) = 1#1 ↔ t.val / 8 = 3 := by
  decide +kernel
theorem cond15_iff : ∀ t : Fin grid0.N, k0_cond15 (grid0.coords t) = 1#1 ↔ t.val = 31 := by
  decide +kernel
theorem off1_eq : ∀ t : Fin grid0.N, k0_off1 (grid0.coords t) = ![t.val / 8] := by decide +kernel

end Cert.KernelIdeal.Ring
-- ==== Proof.Slots.lean ====
/- The pieces the kernel's buffers are cut in — four slots of 1024 × 1024 of the two exchange buffers, two
   of the staging buffer, eight panels of the accumulator and of the result, four row blocks of the input —,
   as element sets, and whole-buffer contents written piece by piece. -/
module

public import proofs.«01_k».proof.Proof.Words
public import Idealize.ShloMosaic.Lib.Ring
public import Idealize.ShloMosaic.Lib.ViewIndex

@[expose] public section

noncomputable section

namespace Cert.KernelIdeal.Ring

open Idealize.ShloMosaic Idealize.SL.Sem
open Cert.KernelIdeal Cert.KernelIdeal.Gen

/-! ### Writing a payload against contents known to read as it -/

section Agree

variable {sg : RefSig} {κ : Kind} {Val : EltTy → Type} {sp : Space} {s : Shape} {e : EltTy}

/-- Contents that a view reads as `w` agree, on the view's elements, with anything `w` has been written in. -/
theorem write_agree (v : View sg κ sp s e) (f G : v.ty.Contents Val) (w : s.Idx → Val e)
    (h : v.read Val G = w) : ∀ i ∈ v.set, v.write Val f w Finset.univ i = G i := by
  intro i hi
  obtain ⟨x, -, rfl⟩ := Finset.mem_map.mp hi
  exact View.eq_of_read_eq ((View.read_write_of_mem (v := v) f w (Finset.mem_univ x)).trans
    (congrFun h x).symm)

end Agree

/-! ### Slots of a four-slot buffer -/

theorem slot_inb (b : Fin 4) : ∀ a, (![b.val, 0, 0] : Fin 3 → Nat) a + S1x1024x1024.size a ≤ S4x1024x1024.size a := by
  revert b; decide

/-- Slot `b` of a buffer of four. -/
def slotSet (b : Fin 4) : Finset S4x1024x1024.Idx :=
  (Rect.unit (s := S4x1024x1024) ![b.val, 0, 0] S1x1024x1024.size (slot_inb b)).set

theorem slot_disjoint (b b' : Fin 4) (h : b ≠ b') : Disjoint (slotSet b) (slotSet b') :=
  Ring.lead_disjoint (s := S4x1024x1024) (NB := 4) 0 1 (fun b => ![b.val, 0, 0]) S1x1024x1024.size slot_inb
    (fun b => by simp) rfl b b' h

theorem slot_cover : Finset.univ.biUnion slotSet = Finset.univ :=
  Ring.lead_cover (s := S4x1024x1024) (NB := 4) 0 1 (fun b => ![b.val, 0, 0]) S1x1024x1024.size slot_inb
    (fun b => by simp) (by intro b a ha; fin_cases a <;> first | exact absurd rfl ha | rfl) rfl
    (by intro a ha; fin_cases a <;> first | exact absurd rfl ha | rfl) rfl

/-- A buffer of four slots, slot by slot. -/
def slotBuf {α : Type} (G : Fin 4 → S1x1024x1024.Idx → α) : S4x1024x1024.Idx → α :=
  fun i => G (i 0) (fun a => match a with | ⟨0, _⟩ => (0 : Fin 1) | ⟨1, _⟩ => (i 1 : Fin 1024) | ⟨2, _⟩ => (i 2 : Fin 1024))

theorem slotBuf_emb {α : Type} (G : Fin 4 → S1x1024x1024.Idx → α) (b : Fin 4) (x : S1x1024x1024.Idx) :
    slotBuf G ((Rect.unit (s := S4x1024x1024) ![b.val, 0, 0] S1x1024x1024.size (slot_inb b)).emb x) = G b x := by
  have h0 : ((Rect.unit (s := S4x1024x1024) ![b.val, 0, 0] S1x1024x1024.size (slot_inb b)).emb x) 0 = b :=
    Fin.ext (by
      have hx : (x 0).val = 0 := Nat.lt_one_iff.mp (x 0).isLt
      simp [Rect.emb_apply, hx])
  show G (((Rect.unit (s := S4x1024x1024) ![b.val, 0, 0] S1x1024x1024.size (slot_inb b)).emb x) 0) _ = G b x
  rw [h0]
  congr 1
  refine Shape.idx3_ext ?_ ?_ ?_
  · exact (Nat.lt_one_iff.mp (x 0).isLt).symm
  · show (((Rect.unit (s := S4x1024x1024) ![b.val, 0, 0] S1x1024x1024.size (slot_inb b)).emb x) 1).val = (x 1).val
    simp [Rect.emb_apply]
  · show (((Rect.unit (s := S4x1024x1024) ![b.val, 0, 0] S1x1024x1024.size (slot_inb b)).emb x) 2).val = (x 2).val
    simp [Rect.emb_apply]

/-! ### Slots of the two-slot staging buffer -/

theorem stage_inb (b : Fin 2) : ∀ a, (![b.val, 0, 0] : Fin 3 → Nat) a + S1x1024x1024.size a ≤ S2x1024x1024.size a := by
  revert b; decide

/-- Slot `b` of a buffer of two. -/
def stageSet (b : Fin 2) : Finset S2x1024x1024.Idx :=
  (Rect.unit (s := S2x1024x1024) ![b.val, 0, 0] S1x1024x1024.size (stage_inb b)).set

theorem stage_disjoint (b b' : Fin 2) (h : b ≠ b') : Disjoint (stageSet b) (stageSet b') :=
  Ring.lead_disjoint (s := S2x1024x1024) (NB := 2) 0 1 (fun b => ![b.val, 0, 0]) S1x1024x1024.size stage_inb
    (fun b => by simp) rfl b b' h

theorem stage_cover : Finset.univ.biUnion stageSet = Finset.univ :=
  Ring.lead_cover (s := S2x1024x1024) (NB := 2) 0 1 (fun b => ![b.val, 0, 0]) S1x1024x1024.size stage_inb
    (fun b => by simp) (by intro b a ha; fin_cases a <;> first | exact absurd rfl ha | rfl) rfl
    (by intro a ha; fin_cases a <;> first | exact absurd rfl ha | rfl) rfl

/-- A buffer of two slots holding the same block in both (only one of them is ever looked at). -/
def stageBuf {α : Type} (G : S1x1024x1024.Idx → α) : S2x1024x1024.Idx → α :=
  fun i => G (fun a => match a with | ⟨0, _⟩ => (0 : Fin 1) | ⟨1, _⟩ => (i 1 : Fin 1024) | ⟨2, _⟩ => (i 2 : Fin 1024))

theorem stageBuf_emb {α : Type} (G : S1x1024x1024.Idx → α) (b : Fin 2) (x : S1x1024x1024.Idx) :
    stageBuf G ((Rect.unit (s := S2x1024x1024) ![b.val, 0, 0] S1x1024x1024.size (stage_inb b)).emb x) = G x := by
  unfold stageBuf
  congr 1
  refine Shape.idx3_ext ?_ ?_ ?_
  · exact (Nat.lt_one_iff.mp (x 0).isLt).symm
  · show (((Rect.unit (s := S2x1024x1024) ![b.val, 0, 0] S1x1024x1024.size (stage_inb b)).emb x) 1).val = (x 1).val
    simp [Rect.emb_apply]
  · show (((Rect.unit (s := S2x1024x1024) ![b.val, 0, 0] S1x1024x1024.size (stage_inb b)).emb x) 2).val = (x 2).val
    simp [Rect.emb_apply]

/-! ### Panels of the accumulator and of the result -/

theorem col_inb (j : Fin 8) : ∀ a, (![0, 1024 * j.val] : Fin 2 → Nat) a + S1024x1024.size a ≤ S1024x8192.size a := by
  revert j; decide

/-- Panel `j`: columns `1024 j` to `1024 j + 1023`. -/
def colSet (j : Fin 8) : Finset S1024x8192.Idx :=
  (Rect.unit (s := S1024x8192) ![0, 1024 * j.val] S1024x1024.size (col_inb j)).set

theorem col_disjoint (j j' : Fin 8) (h : j ≠ j') : Disjoint (colSet j) (colSet j') :=
  Ring.lead_disjoint (s := S1024x8192) (NB := 8) 1 1024 (fun j => ![0, 1024 * j.val]) S1024x1024.size col_inb
    (fun b => by simp) rfl j j' h

theorem col_cover : Finset.univ.biUnion colSet = Finset.univ :=
  Ring.lead_cover (s := S1024x8192) (NB := 8) 1 1024 (fun j => ![0, 1024 * j.val]) S1024x1024.size col_inb
    (fun b => by simp) (by intro b a ha; fin_cases a <;> first | exact absurd rfl ha | rfl) rfl
    (by intro a ha; fin_cases a <;> first | exact absurd rfl ha | rfl) rfl

/-- A buffer of eight panels, panel by panel. -/
def colBuf {α : Type} (G : Fin 8 → S1024x1024.Idx → α) : S1024x8192.Idx → α :=
  fun i => G ⟨(i 1).val / 1024, Nat.div_lt_of_lt_mul (i 1).isLt⟩
    (fun a => match a with
      | ⟨0, _⟩ => (i 0 : Fin 1024)
      | ⟨1, _⟩ => (⟨(i 1).val % 1024, Nat.mod_lt _ (by decide)⟩ : Fin 1024))

theorem idx2_ext {d : Fin 2 → Nat} {x y : (⟨2, d⟩ : Shape).Idx} (h0 : (x 0).val = (y 0).val)
    (h1 : (x 1).val = (y 1).val) : x = y :=
  funext fun a => by
    match a with
    | ⟨0, _⟩ => exact Fin.ext h0
    | ⟨1, _⟩ => exact Fin.ext h1

theorem colBuf_emb {α : Type} (G : Fin 8 → S1024x1024.Idx → α) (j : Fin 8) (x : S1024x1024.Idx) :
    colBuf G ((Rect.unit (s := S1024x8192) ![0, 1024 * j.val] S1024x1024.size (col_inb j)).emb x) = G j x := by
  have hx : (x 1).val < 1024 := (x 1).isLt
  have e0 : (((Rect.unit (s := S1024x8192) ![0, 1024 * j.val] S1024x1024.size (col_inb j)).emb x) 0).val = (x 0).val := by
    simp [Rect.emb_apply]
  have e1 : (((Rect.unit (s := S1024x8192) ![0, 1024 * j.val] S1024x1024.size (col_inb j)).emb x) 1).val
      = 1024 * j.val + (x 1).val := by
    simp [Rect.emb_apply]
  generalize ((Rect.unit (s := S1024x8192) ![0, 1024 * j.val] S1024x1024.size (col_inb j)).emb x) = y at e0 e1
  unfold colBuf
  have hj : (⟨(y 1).val / 1024, Nat.div_lt_of_lt_mul (y 1).isLt⟩ : Fin 8) = j := Fin.ext (by
    show (y 1).val / 1024 = j.val
    omega)
  rw [hj]
  congr 1
  refine idx2_ext ?_ ?_
  · exact e0
  · show (y 1).val % 1024 = (x 1).val
    omega

/-! ### Row blocks of the input -/

theorem row_inb (b : Fin 4) : ∀ a, (![1024 * b.val, 0] : Fin 2 → Nat) a + S1024x1024.size a ≤ S4096x1024.size a := by
  revert b; decide

/-- Row block `b`: rows `1024 b` to `1024 b + 1023`. -/
def rowSet (b : Fin 4) : Finset S4096x1024.Idx :=
  (Rect.unit (s := S4096x1024) ![1024 * b.val, 0] S1024x1024.size (row_inb b)).set

theorem row_disjoint (b b' : Fin 4) (h : b ≠ b') : Disjoint (rowSet b) (rowSet b') :=
  Ring.lead_disjoint (s := S4096x1024) (NB := 4) 0 1024 (fun b => ![1024 * b.val, 0]) S1024x1024.size row_inb
    (fun b => by simp) rfl b b' h

theorem row_cover : Finset.univ.biUnion rowSet = Finset.univ :=
  Ring.lead_cover (s := S4096x1024) (NB := 4) 0 1024 (fun b => ![1024 * b.val, 0]) S1024x1024.size row_inb
    (fun b => by simp) (by intro b a ha; fin_cases a <;> first | exact absurd rfl ha | rfl) rfl
    (by intro a ha; fin_cases a <;> first | exact absurd rfl ha | rfl) rfl

/-- Row block `b` of `x`. -/
def rowBlk {α : Type} (x : S4096x1024.Idx → α) (b : Fin 4) : S1024x1024.Idx → α :=
  fun y => x ((Rect.unit (s := S4096x1024) ![1024 * b.val, 0] S1024x1024.size (row_inb b)).emb y)

end Cert.KernelIdeal.Ring
-- ==== Proof.Contents.lean ====
/- What the kernel's buffers hold: the table of a device, the blocks it casts, exchanges and multiplies, and
   the panels of the accumulator after each block. -/
module

public import proofs.«01_k».proof.Proof.Slots
public import proofs.«01_k».proof.Proof.Gen.KernelIdeal.Skeleton
public import Idealize.ShloMosaic.Lib.Pipeline.Value

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-! ### The prefetched table -/

/-- Device `c`'s table: its own number, then the others in the order it takes their blocks. -/
def tab (c : Dev nD) : S4.Idx → BitVec 32 := fun x => w_ (at_ c (sig_ (x 0)))

/-- The table as the prefetched contents. -/
def tabPf (c : Dev nD) : pre0.Contents (Elt F) :=
  fun | 0 => tab c | ⟨_ + 1, h⟩ => absurd h (Nat.not_lt.2 (Nat.le_add_left _ _))

omit [FloatOps F] in
theorem toNat_w (c : Dev nD) : (w_ c).toNat = c.val := by revert c; decide

omit [FloatOps F] in
theorem transform_tab (c : Dev nD) (i : grid0.Coords) :
    cc0_transform_1 k0_off1_inb numel1_S1 (tabPf (F := F) c) i = ![(at_ c (sig_ (i 0))).val, (i 1).val] := by
  have h1 : ∀ i : grid0.Coords, (BitVec.ofNat 32 (i 1).val).toNat = (i 1).val := by decide +kernel
  have h0 : ∀ i : grid0.Coords, (Scalar.indexCast (BitVec.ofNat 32 (i 0).val)).toNat = (i 0).val := by decide +kernel
  unfold cc0_transform_1
  dsimp only
  rw [h1]
  refine congrArg (fun z => ![z, (i 1).val]) ?_
  show (w_ (at_ c (sig_ _))).toNat = _
  rw [toNat_w]
  refine congrArg (fun z => (at_ c (sig_ z)).val) (Fin.ext ?_)
  refine (Rect.emb_apply _ _ _).trans ?_
  show (Scalar.indexCast (BitVec.ofNat 32 (i 0).val)).toNat + 1 * 0 = (i 0).val
  rw [h0, Nat.mul_zero, Nat.add_zero]

omit [FloatOps F] in
theorem ok_tab (c : Dev nD) : ok0 (tabPf (F := F) c) := by
  intro i
  refine ⟨fun a => ?_, .inl rfl⟩
  rw [transform_tab]
  have h0 : (at_ c (sig_ (i 0))).val < 4 := (at_ c (sig_ (i 0))).isLt
  have h1 : (i 1).val < 8 := (i 1).isLt
  match a with
  | ⟨0, _⟩ => show ((at_ c (sig_ (i 0))).val + 1) * 1024 ≤ 4096; omega
  | ⟨1, _⟩ => show ((i 1).val + 1) * 1024 ≤ 8192; omega

/-- Device `c`'s table, admitted. -/
def adm (c : Dev nD) : (pcfg0 (F := F)).Adm := ⟨tabPf c, ok_tab c⟩

/-! ### The launch's arrays -/

variable (m : (ℓ : Loc nD τ sig) → Buf (Elt F) ℓ)

/-- The block of `x` that device `c` starts with. -/
abbrev xIn (c : Dev nD) : S4096x1024.Idx → F .f32 := m ((c : Thread nD τ).loc main_arg0)

/-- Rows `1024 b` to `1024 b + 1023` of it, as the staging buffer takes them. -/
def stVec (c b : Dev nD) : S1x1024x1024.Idx → F .f32 :=
  fun y => rowBlk (xIn m c) b ((Shape.reshapeEquiv squeezes_S1x1024x1024_S1024x1024.numel_eq).symm y)

/-- The same block cast: what device `c` puts in slot `b` of its send buffer. -/
def x8 (c b : Dev nD) : S1x1024x1024.Idx → F .fp8e5m2 := k0_pay1 (F := F) (stVec m c b)

/-- Device `c`'s send buffer: slot `b` is for device `b`; -/
def x8All (c : Dev nD) : S4x1024x1024.Idx → F .fp8e5m2 := slotBuf fun b => x8 m c b

/-- and its receive buffer: slot `d` is device `d`'s block for `c`. -/
def recvAll (c : Dev nD) : S4x1024x1024.Idx → F .fp8e5m2 := slotBuf fun d => x8 m d c

/-- The left factor of block `s`. -/
def xc (c : Dev nD) (s : Fin 4) : S1024x1024.Idx → F .fp8e5m2 := k0_pay7 (F := F) (x8 m (at_ c (sig_ s)) c)

/-- Step `t`'s block of `w`, as fetched; -/
def wv (c : Dev nD) (t : Fin grid0.N) : S1024x1024.Idx → F .f32 :=
  (((cfg0 (adm (F := F) c)).win 0).blk t).view.read (Elt F) (m ((c : Thread nD τ).loc main_arg1))

/-- and the two scales. -/
def s1v (c : Dev nD) (t : Fin grid0.N) : S1.Idx → F .f32 :=
  (((cfg0 (adm (F := F) c)).win 1).blk t).view.read (Elt F) (m ((c : Thread nD τ).loc main_arg2))
def s2v (c : Dev nD) (t : Fin grid0.N) : S1.Idx → F .f32 :=
  (((cfg0 (adm (F := F) c)).win 2).blk t).view.read (Elt F) (m ((c : Thread nD τ).loc main_arg3))

/-- The one index of a one-element buffer. -/
def one_ : S1.Idx := fun a => ⟨0, by revert a; decide⟩

/-- Step `(s, j)`. -/
def stp (s : Fin 4) (j : Fin 8) : Fin grid0.N := ⟨8 * s.val + j.val, by rw [N_0]; omega⟩

/-- The product of block `s` for panel `j`. -/
def part (c : Dev nD) (s : Fin 4) (j : Fin 8) : S1024x1024.Idx → F .f32 :=
  k0_pay9 (F := F) (xc m c s) (k0_pay8 (F := F) (wv m c (stp s j)))

/-- Panel `j` of the accumulator after the blocks before `n + 1`: set, added to twice, then finished. -/
def accv (c : Dev nD) : Fin 4 → Fin 8 → S1024x1024.Idx → F .f32
  | 0, j => k0_pay10 (F := F) (xc m c 0) (k0_pay8 (F := F) (wv m c (stp 0 j)))
  | 1, j => k0_pay11 (F := F) (part m c 1 j) (accv c 0 j)
  | 2, j => k0_pay11 (F := F) (part m c 2 j) (accv c 1 j)
  | 3, j => k0_pay12 (F := F) (part m c 3 j) (accv c 2 j)
      (s1v m c (stp 3 j) one_) (s2v m c (stp 3 j) one_)

/-- The accumulator after block `n`, and the result. -/
def accAll (c : Dev nD) (n : Fin 4) : S1024x8192.Idx → F .f32 := colBuf (accv m c n)
abbrev outAll (c : Dev nD) : S1024x8192.Idx → F .f32 := accAll m c 3

/-! ### The payloads that only change spelling -/

theorem pay2_eq (v : Vec F S1x1024x1024 .f32) : k0_pay2 (F := F) v = k0_pay1 (F := F) v := rfl
theorem pay6_eq (v : Vec F S1x1024x1024 .f32) : k0_pay6 (F := F) v = k0_pay1 (F := F) v := rfl
theorem pay54_eq (v : Vec F S1x1024x1024 .f32) : k0_pay5 (F := F) (k0_pay4 (F := F) v) = k0_pay1 (F := F) v := rfl
omit [FloatOps F] in
theorem pay3_eq (v : Vec F S1x1024x1024 .fp8e5m2) : k0_pay3 (F := F) v = v :=
  shapeCast_shapeCast v _ _

end Cert.KernelIdeal.Ring
-- ==== Proof.Table.lean ====
/- The table that the host operations compute. -/
module

public import proofs.«01_k».proof.Proof.Gen.KernelIdeal.Regions
public import Idealize.ShloMosaic.Lib.StableHlo.Run
public import proofs.«01_k».proof.Proof.Contents

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

variable (m : (ℓ : Loc nD τ sig) → Buf (Elt F) ℓ) (c : Dev nD)

/-! # The table that the host hands the kernel -/

/-- One entry of the table, as the host's integer operations compute it. -/
def order (c : Dev nD) (k : Fin 4) : BitVec 32 :=
  have a := IntOp.remui .host (IntOp.divui .host (Dev.word c) 1#32) 4#32
  have d := Scalar.select (IntOp.cmpi .eq 4#32 0#32) 1#32 4#32
  have r := IntOp.remsi .host (IntOp.addi a (lit0 k)) d
  Scalar.select (IntOp.andi (IntOp.cmpi .ne (IntOp.cmpi .slt r 0#32) (IntOp.cmpi .slt d 0#32)) (IntOp.cmpi .ne r 0#32)) (IntOp.addi r d) r

omit [FloatOps F] in
theorem order_eq (c : Dev nD) (k : Fin 4) : order c k = w_ (at_ c (sig_ k)) := by revert c k; decide

open Idealize.ShloMosaic.StableHlo in
theorem table_read : V2 m c main_v7 = (tab c : S4.Idx → BitVec 32) := by
  unfold V2 V1 hostOps0_1 hostOps0
  after_results
  simp only [TRef.ofBuf, TRef.toBuf, cast_eq, id]
  funext x
  obtain ⟨k, rfl⟩ : ∃ k : Fin 4, x = fun | ⟨0, _⟩ => k | ⟨_ + 1, h⟩ => absurd h (Nat.not_lt.2 (Nat.le_add_left _ _)) :=
    ⟨x 0, funext fun i => match i with | ⟨0, _⟩ => rfl | ⟨_ + 1, h⟩ => absurd h (Nat.not_lt.2 (Nat.le_add_left _ _))⟩
  have hk : ∀ k : Fin 4, lit0 (S4.rowMajor (fun | ⟨0, _⟩ => k | ⟨_ + 1, h⟩ => absurd h (Nat.not_lt.2 (Nat.le_add_left _ _)))) = lit0 k := fun k => match k with | 0 => rfl | 1 => rfl | 2 => rfl | 3 => rfl
  refine Eq.trans ?_ (order_eq c k)
  unfold order
  simp only [select, andi, cmpi, Host.remsi, addi, broadcastInDim, Host.remui, Host.divui, constantI, hk]

end Cert.KernelIdeal.Ring
-- ==== Proof.Views.lean ====
/- The views the kernel moves data through — a slot of an exchange buffer, of the staging buffer, a panel of
   the accumulator or of the result, a row block of the input —: the elements each covers, what each reads of
   the canonical contents, and the semaphores it counts on. -/
module

public import proofs.«01_k».proof.Proof.Contents

@[expose] public section

noncomputable section

namespace Cert.KernelIdeal.Ring

open Idealize.ShloMosaic Idealize.ShloMosaic.TcCoe Idealize.SL.Sem
open Cert.KernelIdeal Cert.KernelIdeal.Gen

variable {F : FTy → Type}

/-- A block of 1024 × 1024 seen through the flat shape. -/
abbrev flat {α : Type} (G : S1x1024x1024.Idx → α) : S1024x1024.Idx → α :=
  fun x => G (Shape.reshapeEquiv squeezes_S1x1024x1024_S1024x1024.numel_eq x)

/-! ### The buffers -/

/-- The send buffer, -/
abbrev bX8 : Memref sig .tc .vmem S4x1024x1024 .fp8e5m2 := Memref.whole cc0_scratch1
/-- the receive buffer, -/
abbrev bRv : Memref sig .tc .vmem S4x1024x1024 .fp8e5m2 := Memref.whole cc0_scratch2
/-- the staging buffer, -/
abbrev bStg : Memref sig .tc .vmem S2x1024x1024 .f32 := Memref.whole cc0_scratch0
/-- the input, -/
abbrev bX : Memref sig .tc .hbm S4096x1024 .f32 := Memref.whole main_arg0
/-- the accumulator, -/
abbrev bAcc : Memref sig .tc .vmem S1024x8192 .f32 := Memref.whole cc0_scratch5
/-- the result, -/
abbrev bOut : Memref sig .tc .hbm S1024x8192 .f32 := Memref.whole main_v8
/-- the block in use, -/
abbrev bXc : Memref sig .tc .vmem S1024x1024 .fp8e5m2 := Memref.whole cc0_scratch3
/-- the weights in use, -/
abbrev bW8 : Memref sig .tc .vmem S1024x1024 .fp8e5m2 := Memref.whole cc0_scratch4
/-- the table. -/
abbrev bTab : Memref sig .tc .smem S4 .i32 := Memref.whole main_v7

/-! ### The send buffer -/

section X8
variable {off : Fin 3 → Nat} (inb : ∀ a, off a + S1x1024x1024.size a ≤ S4x1024x1024.size a)

/-- The slot at `off` of the send buffer, flat. -/
abbrev x8M : Memref sig .tc .vmem S1024x1024 .fp8e5m2 :=
  (bX8.slice (Rect.unit (s := S4x1024x1024) off S1x1024x1024.size inb) (fun _ => rfl)).squeeze
    S1024x1024 squeezes_S1x1024x1024_S1024x1024
/-- The same slot as loads and stores see it. -/
abbrev x8A := bX8.access (Rect.unit (s := S4x1024x1024) off S1x1024x1024.size inb)

theorem x8M_set {b : Fin 4} (h : off = ![b.val, 0, 0]) : (x8M inb).view.set = slotSet b := by
  subst h; exact (View.set_reshape _ _).trans (View.set_slice_whole cc0_scratch1 _)
theorem x8A_set {b : Fin 4} (h : off = ![b.val, 0, 0]) : (x8A inb).set = slotSet b := by
  subst h; exact View.set_slice_whole cc0_scratch1 _
theorem x8M_read {b : Fin 4} (h : off = ![b.val, 0, 0]) (G : Fin 4 → S1x1024x1024.Idx → F .fp8e5m2) :
    (x8M inb).view.read (Elt F) (slotBuf G) = flat (G b) := by
  subst h; exact funext fun x => slotBuf_emb G b _
theorem x8A_read {b : Fin 4} (h : off = ![b.val, 0, 0]) (G : Fin 4 → S1x1024x1024.Idx → F .fp8e5m2) :
    (x8A inb).read (Elt F) (slotBuf G) = G b := by
  subst h; exact funext fun x => slotBuf_emb G b x
end X8

/-! ### The receive buffer -/

section Recv
variable {off : Fin 3 → Nat} (inb : ∀ a, off a + S1x1024x1024.size a ≤ S4x1024x1024.size a)

/-- The slot at `off` of the receive buffer, flat. -/
abbrev rvM : Memref sig .tc .vmem S1024x1024 .fp8e5m2 :=
  (bRv.slice (Rect.unit (s := S4x1024x1024) off S1x1024x1024.size inb) (fun _ => rfl)).squeeze
    S1024x1024 squeezes_S1x1024x1024_S1024x1024
/-- The same slot as loads and stores see it. -/
abbrev rvA := bRv.access (Rect.unit (s := S4x1024x1024) off S1x1024x1024.size inb)

theorem rvM_set {b : Fin 4} (h : off = ![b.val, 0, 0]) : (rvM inb).view.set = slotSet b := by
  subst h; exact (View.set_reshape _ _).trans (View.set_slice_whole cc0_scratch2 _)
theorem rvA_set {b : Fin 4} (h : off = ![b.val, 0, 0]) : (rvA inb).set = slotSet b := by
  subst h; exact View.set_slice_whole cc0_scratch2 _
theorem rvM_read {b : Fin 4} (h : off = ![b.val, 0, 0]) (G : Fin 4 → S1x1024x1024.Idx → F .fp8e5m2) :
    (rvM inb).view.read (Elt F) (slotBuf G) = flat (G b) := by
  subst h; exact funext fun x => slotBuf_emb G b _
theorem rvA_read {b : Fin 4} (h : off = ![b.val, 0, 0]) (G : Fin 4 → S1x1024x1024.Idx → F .fp8e5m2) :
    (rvA inb).read (Elt F) (slotBuf G) = G b := by
  subst h; exact funext fun x => slotBuf_emb G b x
end Recv

/-! ### The staging buffer -/

section Stage
variable {off : Fin 3 → Nat} (inb : ∀ a, off a + S1x1024x1024.size a ≤ S2x1024x1024.size a)

/-- The slot at `off` of the staging buffer, flat. -/
abbrev stM : Memref sig .tc .vmem S1024x1024 .f32 :=
  (bStg.slice (Rect.unit (s := S2x1024x1024) off S1x1024x1024.size inb) (fun _ => rfl)).squeeze
    S1024x1024 squeezes_S1x1024x1024_S1024x1024
/-- The same slot as loads see it. -/
abbrev stA := bStg.access (Rect.unit (s := S2x1024x1024) off S1x1024x1024.size inb)

theorem stM_set {b : Fin 2} (h : off = ![b.val, 0, 0]) : (stM inb).view.set = stageSet b := by
  subst h; exact (View.set_reshape _ _).trans (View.set_slice_whole cc0_scratch0 _)
theorem stA_set {b : Fin 2} (h : off = ![b.val, 0, 0]) : (stA inb).set = stageSet b := by
  subst h; exact View.set_slice_whole cc0_scratch0 _
theorem stM_read {b : Fin 2} (h : off = ![b.val, 0, 0]) (G : S1x1024x1024.Idx → F .f32) :
    (stM inb).view.read (Elt F) (stageBuf G) = flat G := by
  subst h; exact funext fun x => stageBuf_emb G b _
theorem stA_read {b : Fin 2} (h : off = ![b.val, 0, 0]) (G : S1x1024x1024.Idx → F .f32) :
    (stA inb).read (Elt F) (stageBuf G) = G := by
  subst h; exact funext fun x => stageBuf_emb G b x
end Stage

/-! ### The input's row blocks -/

section Rows
variable {off : Fin 2 → Nat} (inb : ∀ a, off a + S1024x1024.size a ≤ S4096x1024.size a)

/-- The row block at `off` of the input. -/
abbrev xM : Memref sig .tc .hbm S1024x1024 .f32 :=
  bX.slice (Rect.unit (s := S4096x1024) off S1024x1024.size inb) (fun _ => rfl)

theorem xM_set {b : Fin 4} (h : off = ![1024 * b.val, 0]) : (xM inb).view.set = rowSet b := by
  subst h; exact View.set_slice_whole main_arg0 _
theorem xM_read {b : Fin 4} (h : off = ![1024 * b.val, 0]) (x : S4096x1024.Idx → F .f32) :
    (xM inb).view.read (Elt F) x = rowBlk x b := by
  subst h; rfl
end Rows

/-! ### The panels of the accumulator and of the result -/

section Cols
variable {off : Fin 2 → Nat} (inb : ∀ a, off a + S1024x1024.size a ≤ S1024x8192.size a)

/-- The panel at `off` of the accumulator, as a copy sees it, -/
abbrev acM : Memref sig .tc .vmem S1024x1024 .f32 :=
  bAcc.slice (Rect.unit (s := S1024x8192) off S1024x1024.size inb) (fun _ => rfl)
/-- as loads and stores see it, -/
abbrev acA := bAcc.access (Rect.unit (s := S1024x8192) off S1024x1024.size inb)
/-- and the panel at `off` of the result. -/
abbrev ouM : Memref sig .tc .hbm S1024x1024 .f32 :=
  bOut.slice (Rect.unit (s := S1024x8192) off S1024x1024.size inb) (fun _ => rfl)

theorem acM_set {j : Fin 8} (h : off = ![0, 1024 * j.val]) : (acM inb).view.set = colSet j := by
  subst h; exact View.set_slice_whole cc0_scratch5 _
theorem acA_set {j : Fin 8} (h : off = ![0, 1024 * j.val]) : (acA inb).set = colSet j := by
  subst h; exact View.set_slice_whole cc0_scratch5 _
theorem ouM_set {j : Fin 8} (h : off = ![0, 1024 * j.val]) : (ouM inb).view.set = colSet j := by
  subst h; exact View.set_slice_whole main_v8 _
theorem acM_read {j : Fin 8} (h : off = ![0, 1024 * j.val]) (G : Fin 8 → S1024x1024.Idx → F .f32) :
    (acM inb).view.read (Elt F) (colBuf G) = G j := by
  subst h; exact funext fun x => colBuf_emb G j x
theorem acA_read {j : Fin 8} (h : off = ![0, 1024 * j.val]) (G : Fin 8 → S1024x1024.Idx → F .f32) :
    (acA inb).read (Elt F) (colBuf G) = G j := by
  subst h; exact funext fun x => colBuf_emb G j x
theorem ouM_read {j : Fin 8} (h : off = ![0, 1024 * j.val]) (G : Fin 8 → S1024x1024.Idx → F .f32) :
    (ouM inb).view.read (Elt F) (colBuf G) = G j := by
  subst h; exact funext fun x => colBuf_emb G j x
end Cols

/-! ### What the copies count -/

/-- A slot of the exchange buffers counts -/
abbrev NX : ℕ := (rvM (slot_inb 0)).view.dmaCredit
/-- and a block of 1024 × 1024 floats -/
abbrev NB : ℕ := (stM (stage_inb 0)).view.dmaCredit
theorem NX_pos : 0 < NX := View.dmaCredit_pos _ (by decide)
theorem NB_pos : 0 < NB := View.dmaCredit_pos _ (by decide)

theorem rvM_credit {off : Fin 3 → Nat} (inb : ∀ a, off a + S1x1024x1024.size a ≤ S4x1024x1024.size a) :
    (rvM inb).view.dmaCredit = NX := rfl
theorem x8M_credit {off : Fin 3 → Nat} (inb : ∀ a, off a + S1x1024x1024.size a ≤ S4x1024x1024.size a) :
    (x8M inb).view.dmaCredit = NX := rfl
theorem stM_credit {off : Fin 3 → Nat} (inb : ∀ a, off a + S1x1024x1024.size a ≤ S2x1024x1024.size a) :
    (stM inb).view.dmaCredit = NB := rfl
theorem ouM_credit {off : Fin 2 → Nat} (inb : ∀ a, off a + S1024x1024.size a ≤ S1024x8192.size a) :
    (ouM inb).view.dmaCredit = NB := rfl

end Cert.KernelIdeal.Ring
-- ==== Proof.Protocol.lean ====
/- The protocol between the devices: for every semaphore who waits on it, who signals it or copies onto it, how
   much, and what each landing hands over. All of it is one schedule of rounds.

   * the entry barrier of device c: every other device gives one unit, with its own slot c of its receive buffer;
   * the exit barrier of c: every other device gives one unit, with nothing;
   * staging i: c's own copies of row blocks into staging slot i, two rounds;
   * send k: c's own copy to the device k + 1 places on, which gives back the slot it read;
   * recv b: device b's copy, which hands over slot b of c's receive buffer holding b's block for c;
   * out j: c's own copy of panel j of the accumulator to the result. -/
module

public import proofs.«01_k».proof.Proof.Views
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ### The resource algebra -/

/-- The pipeline library's copy and the protocol's; a duty is named by the device that pays it. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ### The cells of a device -/

/-- The kernel's own semaphores on one device: the exit barrier, staging 0–1, send 0–2, recv 0–3, out 0–7. -/
abbrev OK : Type := Unit ⊕ Fin 2 ⊕ Fin 3 ⊕ Fin 4 ⊕ Fin 8

instance : DecidableEq OK := inferInstance
instance : DecidableEq (Option OK) := inferInstance
instance : Fintype OK := inferInstance
instance : Fintype (Option OK) := inferInstance

abbrev kEnd : OK := .inl ()
abbrev kStg (i : Fin 2) : OK := .inr (.inl i)
abbrev kSnd (k : Fin 3) : OK := .inr (.inr (.inl k))
abbrev kRcv (b : Fin 4) : OK := .inr (.inr (.inr (.inl b)))
abbrev kOut (j : Fin 8) : OK := .inr (.inr (.inr (.inr j)))

/-- Where each lies. -/
def osem : OK → SemLoc sig
  | .inl _ => .reg (1 : Fin 2)
  | .inr (.inl i) => .dma (⟨4 + i.val, by omega⟩ : Fin 21)
  | .inr (.inr (.inl k)) => .dma (⟨6 + k.val, by omega⟩ : Fin 21)
  | .inr (.inr (.inr (.inl b))) => .dma (⟨9 + b.val, by omega⟩ : Fin 21)
  | .inr (.inr (.inr (.inr j))) => .dma (⟨13 + j.val, by omega⟩ : Fin 21)

/-- With the entry barrier, `none`. -/
def loc : Option OK → SemLoc sig
  | none => .reg (0 : Fin 2)
  | some k => osem k

/-- Which of them a semaphore is. -/
def key : SemLoc sig → Option (Option OK)
  | .reg s => if s.val = 0 then some none else some (some kEnd)
  | .dma s =>
    if h : s.val < 4 then none
    else if h : s.val < 6 then some (some (kStg ⟨s.val - 4, by omega⟩))
    else if h : s.val < 9 then some (some (kSnd ⟨s.val - 6, by omega⟩))
    else if h : s.val < 13 then some (some (kRcv ⟨s.val - 9, by omega⟩))
    else some (some (kOut ⟨s.val - 13, by have := s.isLt; have e : sig.nDmaSem = 21 := rfl; omega⟩))

theorem key_loc : ∀ k, key (loc k) = some k
  | none => rfl
  | some (.inl _) => rfl
  | some (.inr (.inl i)) => by fin_cases i <;> rfl
  | some (.inr (.inr (.inl k))) => by fin_cases k <;> rfl
  | some (.inr (.inr (.inr (.inl b)))) => by fin_cases b <;> rfl
  | some (.inr (.inr (.inr (.inr j)))) => by fin_cases j <;> rfl
theorem loc_inj : Function.Injective loc := fun a b h => by
  have e := congrArg key h
  rw [key_loc, key_loc] at e
  exact Option.some.inj e
theorem osem_inj : Function.Injective osem := fun _ _ h => Option.some.inj (loc_inj h)

/-- Device `c`'s cell `k`. -/
abbrev cell (c : Dev nD) (k : Option OK) : GSem nD τ sig := ((c : Thread nD τ), loc k)

theorem cell_inj {c c' : Dev nD} {k k' : Option OK} (h : cell c k = cell c' k') : c = c' ∧ k = k' :=
  ⟨congrArg (fun g : GSem nD τ sig => g.1.1) h, loc_inj (congrArg Prod.snd h)⟩

abbrev bar (c : Dev nD) : GSem nD τ sig := cell c none
abbrev own (c : Dev nD) (k : OK) : GSem nD τ sig := cell c (some k)

/-! ### The pieces of memory -/

section Pieces

/-- Device `c`'s slot `b` of the send buffer, -/
abbrev x8P (c : Dev nD) (b : Fin 4) (f : S4x1024x1024.Idx → F .fp8e5m2) : sProp 𝕄 :=
  (c : Thread nD τ).loc cc0_scratch1 ↦[slotSet b]{fullShare} f
/-- of the receive buffer, -/
abbrev rvP (c : Dev nD) (b : Fin 4) (f : S4x1024x1024.Idx → F .fp8e5m2) : sProp 𝕄 :=
  (c : Thread nD τ).loc cc0_scratch2 ↦[slotSet b]{fullShare} f
/-- slot `i` of the staging buffer, -/
abbrev stP (c : Dev nD) (i : Fin 2) (f : S2x1024x1024.Idx → F .f32) : sProp 𝕄 :=
  (c : Thread nD τ).loc cc0_scratch0 ↦[stageSet i]{fullShare} f
/-- row block `b` of the input, -/
abbrev xP (c : Dev nD) (b : Fin 4) (f : S4096x1024.Idx → F .f32) : sProp 𝕄 :=
  (c : Thread nD τ).loc main_arg0 ↦[rowSet b]{fullShare} f
/-- panel `j` of the accumulator, -/
abbrev acP (c : Dev nD) (j : Fin 8) (f : S1024x8192.Idx → F .f32) : sProp 𝕄 :=
  (c : Thread nD τ).loc cc0_scratch5 ↦[colSet j]{fullShare} f
/-- panel `j` of the result. -/
abbrev ouP (c : Dev nD) (j : Fin 8) (f : S1024x8192.Idx → F .f32) : sProp 𝕄 :=
  (c : Thread nD τ).loc main_v8 ↦[colSet j]{fullShare} f

end Pieces

variable (m : (ℓ : Loc nD τ sig) → Buf (Elt F) ℓ)

/-! ### The schedule -/

/-- The block that staging slot `i` takes in round `r`: the successor's, the own, the predecessor's, the
    opposite one's. -/
def stgBlk (c : Dev nD) (i : Fin 2) (r : ℕ) : Dev nD :=
  if r = 0 then (if i = 0 then at_ c 1 else at_ c 0) else (if i = 0 then at_ c 3 else at_ c 2)

/-- The device that send `k` goes to. -/
abbrev sndTo (c : Dev nD) (k : Fin 3) : Dev nD := at_ c k.succ

/-- Who pays round `r` of device `c`'s cell. -/
def dut (c : Dev nD) : Option OK → ℕ → Finset (Dev nD)
  | none, r => if r = 0 then Finset.univ.erase c else ∅
  | some (.inl _), r => if r = 0 then Finset.univ.erase c else ∅
  | some (.inr (.inl _)), r => if r < 2 then {c} else ∅
  | some (.inr (.inr (.inl _))), r => if r = 0 then {c} else ∅
  | some (.inr (.inr (.inr (.inl b)))), r => if r = 0 ∧ b ≠ c then {b} else ∅
  | some (.inr (.inr (.inr (.inr _)))), r => if r = 0 then {c} else ∅

/-- The credit of a slot's and of a panel's copy. -/
@[irreducible] def nX : ℕ := NX
@[irreducible] def nB : ℕ := NB

theorem nX_eq : NX = nX := by unfold nX; rfl
theorem nB_eq : NB = nB := by unfold nB; rfl
theorem nX_pos : 0 < nX := nX_eq ▸ NX_pos
theorem nB_pos : 0 < nB := nB_eq ▸ NB_pos

/-- How much. -/
def amt : Option OK → ℕ
  | none => 1
  | some (.inl _) => 1
  | some (.inr (.inl _)) => nB
  | some (.inr (.inr (.inl _))) => nX
  | some (.inr (.inr (.inr (.inl _)))) => nX
  | some (.inr (.inr (.inr (.inr _)))) => nB

theorem amt_pos : ∀ k, 0 < amt k
  | none => Nat.one_pos
  | some (.inl _) => Nat.one_pos
  | some (.inr (.inl _)) => nB_pos
  | some (.inr (.inr (.inl _))) => nX_pos
  | some (.inr (.inr (.inr (.inl _)))) => nX_pos
  | some (.inr (.inr (.inr (.inr _)))) => nB_pos

/-- And what it hands over. -/
def pay (c : Dev nD) : Option OK → ℕ → Dev nD → sProp 𝕄
  | none, _, d => iprop((∃ f, rvP (F := F) d c f) ∗ reached ER (own d (kRcv c)) 0 ∗ reached ER (own d kEnd) 0)
  | some (.inl _), _, _ => iprop(emp)
  | some (.inr (.inl i)), r, _ =>
    iprop(stP c i (stageBuf (stVec m c (stgBlk c i r))) ∗ xP c (stgBlk c i r) (xIn m c))
  | some (.inr (.inr (.inl k))), _, _ => x8P c (sndTo c k) (x8All m c)
  | some (.inr (.inr (.inr (.inl b)))), _, _ => rvP c b (recvAll m c)
  | some (.inr (.inr (.inr (.inr j)))), _, _ => iprop(ouP c j (outAll m c) ∗ acP c j (outAll m c))

instance pay_storable (c : Dev nD) : ∀ (k : Option OK) (r : ℕ) (d : Dev nD),
    BI.Storable (upEmb : UEmb _ 𝕄) (pay m c k r d)
  | none, _, _ => by unfold pay; infer_instance
  | some (.inl _), _, _ => by unfold pay; infer_instance
  | some (.inr (.inl _)), _, _ => by unfold pay; infer_instance
  | some (.inr (.inr (.inl _))), _, _ => by unfold pay; infer_instance
  | some (.inr (.inr (.inr (.inl _)))), _, _ => by unfold pay; infer_instance
  | some (.inr (.inr (.inr (.inr _)))), _, _ => by unfold pay; infer_instance

/-- The schedule. -/
def Rd : Schedule (GSem nD τ sig) (Dev nD) 𝕄 where
  duties g r := match key g.2 with
    | some k => if g.1.2 = .tc then dut g.1.1 k r else ∅
    | none => ∅
  amount g _ _ := match key g.2 with
    | some k => amt k
    | none => 1
  payload g r d := match key g.2 with
    | some k => pay m g.1.1 k r d
    | none => iprop(emp)
  amount_pos g _ _ _ := by
    split
    · exact amt_pos _
    · exact Nat.one_pos

instance Rd_storable (g : GSem nD τ sig) (r : ℕ) (d : Dev nD) :
    BI.Storable (upEmb : UEmb _ 𝕄) ((Rd (F := F) m).payload g r d) := by
  show BI.Storable upEmb (match key g.2 with | some k => pay m g.1.1 k r d | none => iprop(emp))
  split <;> infer_instance

theorem duties_cell (c : Dev nD) (k : Option OK) (r : ℕ) : (Rd (F := F) m).duties (cell c k) r = dut c k r := by
  dsimp only [Rd]; rw [key_loc]; exact if_pos rfl
theorem amount_cell (c : Dev nD) (k : Option OK) (r : ℕ) (d : Dev nD) :
    (Rd (F := F) m).amount (cell c k) r d = amt k := by
  dsimp only [Rd]; rw [key_loc]
theorem payload_cell (c : Dev nD) (k : Option OK) (r : ℕ) (d : Dev nD) :
    (Rd (F := F) m).payload (cell c k) r d = pay m c k r d := by
  dsimp only [Rd]; rw [key_loc]

theorem expect_cell (c : Dev nD) (k : Option OK) (r : ℕ) :
    (Rd (F := F) m).expect (cell c k) r = (dut c k r).card * amt k := by
  unfold Schedule.expect Schedule.amountOf
  rw [duties_cell, Finset.sum_congr rfl fun d _ => amount_cell m c k r d, Finset.sum_const, smul_eq_mul]

theorem rest_cell (c : Dev nD) (k : Option OK) (r : ℕ) :
    bigSep ((Rd (F := F) m).duties (cell c k) r \ ∅) (fun d => (Rd (F := F) m).payload (cell c k) r d)
      = bigSep (dut c k r) (fun d => pay m c k r d) := by
  rw [Finset.sdiff_empty, duties_cell]
  exact bigSep_congr fun d _ => payload_cell m c k r d

/-- Rounds after the last one a cell runs. -/
def rnd (c : Dev nD) : OK → ℕ
  | .inl _ => 1
  | .inr (.inl _) => 2
  | .inr (.inr (.inl _)) => 1
  | .inr (.inr (.inr (.inl b))) => if b = c then 0 else 1
  | .inr (.inr (.inr (.inr _))) => 1

theorem dut_end (c : Dev nD) : ∀ (k : OK) (r : ℕ), rnd c k ≤ r → dut c (some k) r = ∅
  | .inl _, r, h => if_neg (by simp only [rnd] at h; omega)
  | .inr (.inl _), r, h => if_neg (by simp only [rnd] at h; omega)
  | .inr (.inr (.inl _)), r, h => if_neg (by simp only [rnd] at h; omega)
  | .inr (.inr (.inr (.inl b))), r, h => if_neg (by
      rintro ⟨hr, hb⟩
      simp only [rnd, if_neg hb] at h
      omega)
  | .inr (.inr (.inr (.inr _))), r, h => if_neg (by simp only [rnd] at h; omega)

theorem others (c : Dev nD) : (Finset.univ.erase c : Finset (Dev nD)) = {at_ c 1, at_ c 2, at_ c 3} := by
  revert c; decide

/-! ### What each device owes at launch; the levels -/

/-- One unit of `d`'s entry barrier, one of its exit barrier, one block of device `c`'s at `d`. -/
abbrev tB (d : Dev nD) : CellTallies nD τ sig Unit := tallyAt (bar d) () 1
abbrev tE (d : Dev nD) : CellTallies nD τ sig Unit := tallyAt (own d kEnd) () 1
abbrev tR (d c : Dev nD) : CellTallies nD τ sig Unit := tallyAt (own d (kRcv c)) () nX

/-- What is owed while the blocks are multiplied: the exit barriers. -/
def oEnd (c : Dev nD) : CellTallies nD τ sig Unit := tE (at_ c 3) + tE (at_ c 2) + tE (at_ c 1)
/-- While they are sent. -/
def oSnd (c : Dev nD) : CellTallies nD τ sig Unit := oEnd c + tR (at_ c 2) c + tR (at_ c 3) c + tR (at_ c 1) c
/-- At launch. -/
def O₀ (c : Dev nD) : CellTallies nD τ sig Unit := oSnd c + tB (at_ c 3) + tB (at_ c 2) + tB (at_ c 1)

def L (g : GSem nD τ sig) : Finset Unit := if g.1.2 = .tc then {()} else ∅

/-- Entry barriers at 1, arrivals at 2, exit barriers at 3, the rest at 0. -/
def lvl : Option (Option OK) → ℕ
  | some none => 1
  | some (some (.inl _)) => 3
  | some (some (.inr (.inr (.inr (.inl _))))) => 2
  | _ => 0
def lv (g : GSem nD τ sig) (_ : Unit) : ℕ := lvl (key g.2)

theorem L_tc (c : Dev nD) (sm : SemLoc sig) : L ((c : Thread nD τ), sm) = {()} := if_pos rfl
theorem L_of_ne (g : GSem nD τ sig) (h : g.1.2 ≠ .tc) : L g = ∅ := if_neg h
theorem lv_cell (c : Dev nD) (k : Option OK) (u : Unit) : lv (cell c k) u = lvl (some k) := by
  unfold lv; rw [key_loc]

/-- Everything owed sits above level `n`. -/
def Above (n : ℕ) (O : CellTallies nD τ sig Unit) : Prop := ∀ g u, 0 < O g u → u ∈ L g ∧ n < lv g u

theorem Above.add {n : ℕ} {O O' : CellTallies nD τ sig Unit} (h : Above n O) (h' : Above n O') : Above n (O + O') := by
  intro g u hg
  rw [Pi.add_apply, Finsupp.add_apply] at hg
  rcases Nat.add_pos_iff_pos_or_pos.mp hg with h1 | h1
  · exact h g u h1
  · exact h' g u h1

theorem Above.tally {n : ℕ} (d : Dev nD) (k : Option OK) (a : ℕ) (h : n < lvl (some k)) :
    Above n (tallyAt (cell d k) () a) := by
  intro g u hg
  rw [tallyAt_apply] at hg
  split at hg
  · next e => rw [e.1]; exact ⟨by rw [L_tc]; exact Finset.mem_singleton_self _, by rw [lv_cell]; exact h⟩
  · exact absurd hg (Nat.lt_irrefl 0)

theorem above_oEnd (c : Dev nD) : Above 2 (oEnd c) :=
  ((Above.tally _ _ _ (by decide)).add (Above.tally _ _ _ (by decide))).add (Above.tally _ _ _ (by decide))

theorem Above.mono {n n' : ℕ} (h : n' ≤ n) {O : CellTallies nD τ sig Unit} (hO : Above n O) : Above n' O :=
  fun g u hg => ⟨(hO g u hg).1, lt_of_le_of_lt h (hO g u hg).2⟩

theorem above_tR (d c : Dev nD) : Above 1 (tR d c) := Above.tally _ _ _ Nat.one_lt_two
theorem above_oSnd (c : Dev nD) : Above 1 (oSnd c) :=
  ((((above_oEnd c).mono (by decide)).add (above_tR _ _)).add (above_tR _ _)).add (above_tR _ _)
theorem above_O₀ (c : Dev nD) : Above 0 (O₀ c) :=
  ((((above_oSnd c).mono (by decide)).add (Above.tally _ _ _ (by decide))).add
    (Above.tally _ _ _ (by decide))).add (Above.tally _ _ _ (by decide))

/-- A device may wait on a cell below everything it owes. -/
theorem mayWait (c : Dev nD) (sm : SemLoc sig) {n : ℕ} (hn : lv ((c : Thread nD τ), sm) () ≤ n)
    {O : CellTallies nD τ sig Unit} (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => (hO g u hg).1)
    (fun p hp => by rw [Finset.mem_singleton.mp hp]; exact hn)
    (fun g u hg => (hO g u hg).2)

end Cert.KernelIdeal.Ring
-- ==== Proof.Steps.lean ====
/- The steps of the body: each operation of the kernel that touches a semaphore or memory, as one rule over the
   protocol's schedule and the pieces of memory, stated for any offset that names the piece. -/
module

public import proofs.«01_k».proof.Proof.Protocol

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The weakest precondition of a piece of device `c`'s program. -/
abbrev WP {α : Type} (c : Dev nD) (p : Prog (TpuEff nD τ sig (Elt F) Λ₀ .tc) α) (Kt : α → sProp 𝕄) : sProp 𝕄 :=
  wp frame (wpE (defs₀ (F := F)) 𝒱₀ (c : Thread nD τ) none) Set.univ p Kt

/-- Device `c` owes `O`, whatever it has waited on. -/
def ow (c : Dev nD) (O : CellTallies nD τ sig Unit) : sProp 𝕄 := iprop(∃ W, owes (c : Thread nD τ) O W)

variable (m : (ℓ : Loc nD τ sig) → Buf (Elt F) ℓ)

/-- Every cell's invariant. -/
def recs (K : Dev nD × Option OK → ℕ) : sProp 𝕄 :=
  bigSep Finset.univ fun p : Dev nD × Option OK => cellInv ER (Rd m) (K p) (cell p.1 p.2)

instance recs_persistent (K : Dev nD × Option OK → ℕ) : BI.Persistent (recs m K) := by
  unfold recs; infer_instance

theorem recs_at (K : Dev nD × Option OK → ℕ) (d : Dev nD) (k : Option OK) :
    recs m K ⊢ cellInv ER (Rd m) (K (d, k)) (cell d k) :=
  bigSep_elim (Φ := fun p : Dev nD × Option OK => cellInv ER (Rd m) (K p) (cell p.1 p.2)) (Finset.mem_univ (d, k))

theorem recs_own (K : Dev nD × Option OK → ℕ) (d : Dev nD) (k : OK) :
    recs m K ⊢ cellInv ER (Rd m) (K (d, some k)) (own d k) := recs_at m K d (some k)

theorem above_zero (n : ℕ) : Above n 0 := fun _ _ h => absurd h (Nat.lt_irrefl 0)

theorem ne_sndTo : ∀ (c : Dev nD) (k : Fin 3), c ≠ sndTo c k := by decide

variable (K : Dev nD × Option OK → ℕ) (c : Dev nD)

/-! ### Semaphores -/

/-- A signal of one unit to device `d`'s cell. -/
theorem st_signal (d : Dev nD) (k : Option OK) (hd : c ∈ dut d k 0) (ha : amt k = 1) {s : Sem sig}
    (hs : SemLoc.reg s = loc k) {n : Dev nD} (hn : n = d) (O : CellTallies nD τ sig Unit) {O' : CellTallies nD τ sig Unit}
    (hO : O' = O + tallyAt (cell d k) () 1) (Kt : PUnit → sProp 𝕄) :
    iprop(recs m K ∗ ow c O' ∗ dutyTok ER (cell d k) 0 c ∗ pay m d k 0 c ∗ reached ER (cell d k) 0)
      ⊢ iprop((ow c O -∗ Kt ⟨⟩) -∗ WP c (semSignalWord n s 1#32) Kt) := by
  subst hn
  have e : cell n k = ((n : Thread nD τ), SemLoc.reg s) := by rw [hs]
  have ep : (Rd m).payload ((n : Thread nD τ), SemLoc.reg s) 0 c = pay m n k 0 c := by rw [← e, payload_cell]
  unfold ow
  iintro ⟨#HI, ⟨%W, HO⟩, Ht, Hp, #Hr⟩ Hk
  ihave #Hi := (recs_at m K n k) $$ HI
  rw [e]
  iapply (Rounds.wp_signal 𝒱₀ ER (Rd m) (c : Thread nD τ) none (dst := (n : Thread nD τ)) (sem := s) (r := 0) (d := c)
    (κ := K (n, k)) (k' := 1) (k := Prog.ret) (by rw [← e, duties_cell]; exact hd) (by rw [← e, amount_cell, ha]) ()
    (O₀ := O') O (hO.trans (by rw [e])) (W := W)) $$ [HO Ht Hp]
  · isplitr; · iexact Hi
    isplitl [HO]; · iexact HO
    isplitl [Ht]; · iexact Ht
    isplitl [Hp]; · rw [ep]; iexact Hp
    iexact Hr
  iintro HO
  rw [wp_ret]
  imodintro
  iapply Hk
  iexists W
  iexact HO

/-- The wait for all of round `R` of the own cell `k`, a regular semaphore. -/
theorem st_wait (k : Option OK) (R : ℕ) {s : Sem sig} (hs : SemLoc.reg s = loc k) {b : BitVec 32} {a : ℕ}
    (hb : b.toInt = (a : ℤ)) (hk : a = (dut c k R).card * amt k) {n : ℕ} (hn : lvl (some k) ≤ n)
    {O : CellTallies nD τ sig Unit} (hO : Above n O) (Kt : PUnit → sProp 𝕄) :
    iprop(recs m K ∗ levAts L lv ∗ ow c O ∗ cred (tallyAt (cell c k) () a) ∗ atPos ER (cell c k) R ∅ 0)
      ⊢ iprop(((ow c O ∗ atPos ER (cell c k) (R + 1) ∅ 0 ∗ bigSep (dut c k R) (fun d => pay m c k R d)) -∗ Kt ⟨⟩)
          -∗ WP c (semWaitWord s b) Kt) := by
  have e : cell c k = ((c : Thread nD τ), SemLoc.reg s) := by rw [hs]
  have er := rest_cell m c k R
  have ee := expect_cell m c k R
  have hl : lv ((c : Thread nD τ), SemLoc.reg s) () ≤ n := by rw [← e, lv_cell]; exact hn
  unfold ow semWaitWord
  rw [hb]
  iintro ⟨#HI, #Hlev, ⟨%W, HO⟩, Hc, Ha⟩ Hk
  ihave #Hi := (recs_at m K c k) $$ HI
  rw [e] at er ee ⊢
  iapply (Rounds.wp_wait_rest_token 𝒱₀ ER (Rd m) (c : Thread nD τ) none (κ := K (c, k))
    (wpE_semWait_eq 𝒱₀ (c : Thread nD τ) none Set.univ) (Set.mem_univ _) () (k := Prog.ret) (O := O) (W := W) (R := R) (m := 0) (T := ∅)
    ((Nat.zero_add _).trans (hk.trans ee.symm))) $$ [HO Hc Ha]
  · isplitr; · iexact Hi
    isplitl [Hc]; · iexact Hc
    isplitl [HO]; · iexact HO
    isplitr; · iapply (mayWait c (SemLoc.reg s) hl hO); iexact Hlev
    iexact Ha
  iintro ⟨HO, Ha, -, Hp⟩
  rw [wp_ret]
  imodintro
  iapply Hk
  isplitl [HO]; · iexists _; iexact HO
  isplitl [Ha]; · iexact Ha
  rw [← er]
  iexact Hp

/-- The wait for a copy onto the own cell `k`. -/
theorem st_waitDma (k : Option OK) (R : ℕ) (d : Dev nD) (hd : dut c k R = {d}) {s : DmaSem sig} (hs : SemLoc.dma s = loc k)
    {sp sp' : Space} {S S' : Shape} {ty ty' : EltTy} {src : Memref sig .tc sp' S' ty'} {dst : Memref sig .tc sp S ty}
    {h1 : src.view.WordExact} {h2 : dst.view.WordExact} (hN : dst.view.dmaCredit = amt k) {n : ℕ}
    (hn : lvl (some k) ≤ n) {O : CellTallies nD τ sig Unit} (hO : Above n O) (Kt : PUnit → sProp 𝕄) :
    iprop(recs m K ∗ levAts L lv ∗ ow c O ∗ cred (tallyAt (cell c k) () (amt k)) ∗ atPos ER (cell c k) R ∅ 0)
      ⊢ iprop(((ow c O ∗ atPos ER (cell c k) (R + 1) ∅ 0 ∗ reached ER (cell c k) (R + 1) ∗ pay m c k R d) -∗ Kt ⟨⟩)
          -∗ WP c (Prog.lift (.waitDma2 s src dst h1 h2)) Kt) := by
  have e : cell c k = ((c : Thread nD τ), SemLoc.dma s) := by rw [hs]
  have er := rest_cell m c k R
  have ee : (Rd m).expect (cell c k) R = dst.view.dmaCredit := by
    rw [expect_cell, hd, Finset.card_singleton, Nat.one_mul, hN]
  have hl : lv ((c : Thread nD τ), SemLoc.dma s) () ≤ n := by rw [← e, lv_cell]; exact hn
  rw [hd, bigSep_singleton] at er
  unfold ow
  rw [← hN]
  iintro ⟨#HI, #Hlev, ⟨%W, HO⟩, Hc, Ha⟩ Hk
  ihave #Hi := (recs_at m K c k) $$ HI
  rw [e] at er ee ⊢
  iapply (Rounds.wp_wait_rest_token 𝒱₀ ER (Rd m) (c : Thread nD τ) none (κ := K (c, k))
    (wpE_waitDma2_eq (src := src) (dst := dst) 𝒱₀ (c : Thread nD τ) none Set.univ) (Set.mem_univ _) () (k := Prog.ret)
    (O := O) (W := W) (R := R) (m := 0) (T := ∅)
    ((Nat.zero_add _).trans ee.symm)) $$ [HO Hc Ha]
  · isplitr; · iexact Hi
    isplitl [Hc]; · iexact Hc
    isplitl [HO]; · iexact HO
    isplitr; · iapply (mayWait c (SemLoc.dma s) hl hO); iexact Hlev
    iexact Ha
  iintro ⟨HO, Ha, #Hr, Hp⟩
  rw [wp_ret]
  imodintro
  iapply Hk
  isplitl [HO]; · iexists _; iexact HO
  isplitl [Ha]; · iexact Ha
  isplitr; · iexact Hr
  rw [← er]
  iexact Hp

/-! ### Copies -/

section Copies

variable {off : Fin 3 → Nat} (inb : ∀ a, off a + S1x1024x1024.size a ≤ S4x1024x1024.size a)

theorem x8M_pt {b : Fin 4} (h : off = ![b.val, 0, 0]) (f : S4x1024x1024.Idx → F .fp8e5m2) :
    ((x8M inb).view.loc (c : Thread nD τ) ↦[(x8M inb).view.set]{fullShare} f : sProp 𝕄) = x8P c b f :=
  congrArg (fun S : Finset S4x1024x1024.Idx => ((c : Thread nD τ).loc cc0_scratch1 ↦[S]{fullShare} f : sProp 𝕄)) (x8M_set inb h)
theorem rvM_pt {b : Fin 4} (h : off = ![b.val, 0, 0]) (f : S4x1024x1024.Idx → F .fp8e5m2) :
    ((rvM inb).view.loc (c : Thread nD τ) ↦[(rvM inb).view.set]{fullShare} f : sProp 𝕄) = rvP c b f :=
  congrArg (fun S : Finset S4x1024x1024.Idx => ((c : Thread nD τ).loc cc0_scratch2 ↦[S]{fullShare} f : sProp 𝕄)) (rvM_set inb h)

variable {off1 : Fin 3 → Nat} (inb1 : ∀ a, off1 a + S1x1024x1024.size a ≤ S2x1024x1024.size a)
theorem stM_pt {i : Fin 2} (h : off1 = ![i.val, 0, 0]) (f : S2x1024x1024.Idx → F .f32) :
    ((stM inb1).view.loc (c : Thread nD τ) ↦[(stM inb1).view.set]{fullShare} f : sProp 𝕄) = stP c i f :=
  congrArg (fun S : Finset S2x1024x1024.Idx => ((c : Thread nD τ).loc cc0_scratch0 ↦[S]{fullShare} f : sProp 𝕄)) (stM_set inb1 h)

variable {off2 : Fin 2 → Nat} (inb2 : ∀ a, off2 a + S1024x1024.size a ≤ S4096x1024.size a)
theorem xM_pt {b : Fin 4} (h : off2 = ![1024 * b.val, 0]) (f : S4096x1024.Idx → F .f32) :
    ((xM inb2).view.loc (c : Thread nD τ) ↦[(xM inb2).view.set]{fullShare} f : sProp 𝕄) = xP c b f :=
  congrArg (fun S : Finset S4096x1024.Idx => ((c : Thread nD τ).loc main_arg0 ↦[S]{fullShare} f : sProp 𝕄)) (xM_set inb2 h)

variable {off3 : Fin 2 → Nat} (inb3 : ∀ a, off3 a + S1024x1024.size a ≤ S1024x8192.size a)
theorem acM_pt {j : Fin 8} (h : off3 = ![0, 1024 * j.val]) (f : S1024x8192.Idx → F .f32) :
    ((acM inb3).view.loc (c : Thread nD τ) ↦[(acM inb3).view.set]{fullShare} f : sProp 𝕄) = acP c j f :=
  congrArg (fun S : Finset S1024x8192.Idx => ((c : Thread nD τ).loc cc0_scratch5 ↦[S]{fullShare} f : sProp 𝕄)) (acM_set inb3 h)
theorem ouM_pt {j : Fin 8} (h : off3 = ![0, 1024 * j.val]) (f : S1024x8192.Idx → F .f32) :
    ((ouM inb3).view.loc (c : Thread nD τ) ↦[(ouM inb3).view.set]{fullShare} f : sProp 𝕄) = ouP c j f :=
  congrArg (fun S : Finset S1024x8192.Idx => ((c : Thread nD τ).loc main_v8 ↦[S]{fullShare} f : sProp 𝕄)) (ouM_set inb3 h)

/-- What a copy writes, where the canonical contents read as the source. -/
theorem landed {sp : Space} {S : Shape} {ty : EltTy} (d : Dev nD) (v : View sig .tc sp S ty) (f G : v.ty.Contents (Elt F))
    (w : S.Idx → Elt F ty) (h : v.read (Elt F) G = w) :
    (v.loc (d : Thread nD τ) ↦[v.set]{fullShare} v.write (Elt F) f w Finset.univ : sProp 𝕄)
      = (v.loc (d : Thread nD τ) ↦[v.set]{fullShare} G) :=
  pointsTo_congr (write_agree v f G w h)

theorem flat_stVec (b : Dev nD) : flat (stVec m c b) = rowBlk (xIn m c) b :=
  funext fun x => congrArg (rowBlk (xIn m c) b)
    ((Shape.reshapeEquiv squeezes_S1x1024x1024_S1024x1024.numel_eq).symm_apply_apply x)

/-- The start of a copy of a row block into a staging slot. -/
theorem st_stage (i : Fin 2) (r : ℕ) (hr : r < 2) (hx : off2 = ![1024 * (stgBlk c i r).val, 0]) (ho : off1 = ![i.val, 0, 0])
    {s : DmaSem sig} (hs : SemLoc.dma s = osem (kStg i)) {h1 h2 h3} (Kt : PUnit → sProp 𝕄) :
    iprop(recs m K ∗ xP c (stgBlk c i r) (xIn m c) ∗ (∃ f, stP (F := F) c i f) ∗ dutyTok ER (own c (kStg i)) r c
        ∗ reached ER (own c (kStg i)) r)
      ⊢ iprop((cred (tallyAt (own c (kStg i)) () nB) -∗ Kt ⟨⟩)
          -∗ WP c (Prog.lift (.enqueueDma (xM inb2) (.here (stM inb1)) (.dma s) h1 h2 h3)) Kt) := by
  have e : own c (kStg i) = ((c : Thread nD τ), SemLoc.dma s) := by rw [hs]; rfl
  have ep : (Rd m).payload ((c : Thread nD τ), SemLoc.dma s) r c
      = iprop(stP c i (stageBuf (stVec m c (stgBlk c i r))) ∗ xP c (stgBlk c i r) (xIn m c)) := by
    rw [← e, payload_cell]; rfl
  iintro ⟨#HI, Hx, ⟨%f, Hs⟩, Ht, #Hr⟩ Hk
  ihave #Hi := (recs_own m K c (kStg i)) $$ HI
  rw [e]
  iapply (Rounds.wp_copy_pointsTo 𝒱₀ ER (Rd m) (c : Thread nD τ) none (src := xM inb2) (dst := stM inb1) (sem := .dma s)
    (q := fullShare) (fs := xIn m c) (fd := f) (r := r) (d := c) (κ := K (c, some (kStg i))) (k := Prog.ret)
    (by rw [← e, duties_cell]; rw [show dut c (some (kStg i)) r = {c} from if_pos hr]; exact Finset.mem_singleton_self c) () nB
    ((stM_credit inb1).trans nB_eq) (by rw [← e, amount_cell]; rfl)
    (by
      rw [ep]
      rw [xM_pt c inb2 hx, landed c (stM inb1).view f (stageBuf (stVec m c (stgBlk c i r))) _
        ((stM_read inb1 ho _).trans ((flat_stVec m c _).trans (xM_read inb2 hx _).symm)), stM_pt c inb1 ho])) $$ [Hx Hs Ht]
  · isplitr; · iexact Hi
    isplitl [Hx]; · rw [xM_pt c inb2 hx]; iexact Hx
    isplitl [Hs]; · rw [stM_pt c inb1 ho]; iexact Hs
    isplitl [Ht]; · iexact Ht
    iexact Hr
  iintro Hc
  rw [wp_ret]
  imodintro
  iapply Hk
  iexact Hc

/-- The start of the copy of a finished panel to the result. -/
theorem st_out (j : Fin 8) {off4 : Fin 2 → Nat} (inb4 : ∀ a, off4 a + S1024x1024.size a ≤ S1024x8192.size a)
    (ha : off3 = ![0, 1024 * j.val]) (ho : off4 = ![0, 1024 * j.val]) {s : DmaSem sig}
    (hs : SemLoc.dma s = osem (kOut j)) {h1 h2 h3} (Kt : PUnit → sProp 𝕄) :
    iprop(recs m K ∗ acP c j (outAll m c) ∗ (∃ f, ouP (F := F) c j f) ∗ dutyTok ER (own c (kOut j)) 0 c
        ∗ reached ER (own c (kOut j)) 0)
      ⊢ iprop((cred (tallyAt (own c (kOut j)) () nB) -∗ Kt ⟨⟩)
          -∗ WP c (Prog.lift (.enqueueDma (acM inb3) (.here (ouM inb4)) (.dma s) h1 h2 h3)) Kt) := by
  have e : own c (kOut j) = ((c : Thread nD τ), SemLoc.dma s) := by rw [hs]; rfl
  have ep : (Rd m).payload ((c : Thread nD τ), SemLoc.dma s) 0 c
      = iprop(ouP c j (outAll m c) ∗ acP c j (outAll m c)) := by
    rw [← e, payload_cell]; rfl
  iintro ⟨#HI, Hx, ⟨%f, Hs⟩, Ht, #Hr⟩ Hk
  ihave #Hi := (recs_own m K c (kOut j)) $$ HI
  rw [e]
  iapply (Rounds.wp_copy_pointsTo 𝒱₀ ER (Rd m) (c : Thread nD τ) none (src := acM inb3) (dst := ouM inb4) (sem := .dma s)
    (q := fullShare) (fs := outAll m c) (fd := f) (r := 0) (d := c) (κ := K (c, some (kOut j))) (k := Prog.ret)
    (by rw [← e, duties_cell]; exact Finset.mem_singleton_self c) () nB
    ((ouM_credit inb4).trans nB_eq) (by rw [← e, amount_cell]; rfl)
    (by
      rw [ep]
      rw [acM_pt c inb3 ha, landed c (ouM inb4).view f (outAll m c) ((acM inb3).view.read (Elt F) (outAll m c))
        ((ouM_read inb4 ho _).trans (acM_read inb3 ha _).symm), ouM_pt c inb4 ho])) $$ [Hx Hs Ht]
  · isplitr; · iexact Hi
    isplitl [Hx]; · rw [acM_pt c inb3 ha]; iexact Hx
    isplitl [Hs]; · rw [ouM_pt c inb4 ho]; iexact Hs
    isplitl [Ht]; · iexact Ht
    iexact Hr
  iintro Hc
  rw [wp_ret]
  imodintro
  iapply Hk
  iexact Hc

/-- The send of a block to the device it is for: it lands in the sender's slot there. -/
theorem st_send (k : Fin 3) {offr : Fin 3 → Nat} (inbr : ∀ a, offr a + S1x1024x1024.size a ≤ S4x1024x1024.size a)
    (hx : off = ![(sndTo c k).val, 0, 0]) (hr : offr = ![c.val, 0, 0])
    {s s' : DmaSem sig} (hs : SemLoc.dma s = osem (kSnd k)) (hs' : SemLoc.dma s' = osem (kRcv c))
    {n : Dev nD} (hn : n = sndTo c k) (O : CellTallies nD τ sig Unit) {O' : CellTallies nD τ sig Unit}
    (hO : O' = O + tR (sndTo c k) c) {h0 h1 h2 h3} (Kt : PUnit → sProp 𝕄) :
    iprop(recs m K ∗ x8P c (sndTo c k) (x8All m c) ∗ (∃ f, rvP (F := F) (sndTo c k) c f) ∗ ow c O'
        ∗ dutyTok ER (own c (kSnd k)) 0 c ∗ reached ER (own c (kSnd k)) 0
        ∗ dutyTok ER (own (sndTo c k) (kRcv c)) 0 c ∗ reached ER (own (sndTo c k) (kRcv c)) 0)
      ⊢ iprop(((cred (tallyAt (own c (kSnd k)) () nX) ∗ ow c O) -∗ Kt ⟨⟩)
          -∗ WP c (Prog.lift (.enqueueDma (x8M inb) (.remote (Dev.tc n) (rvM inbr) (.dma s) h0) (.dma s') h1 h2 h3)) Kt) := by
  subst hn
  have hne := ne_sndTo c k
  have e : own c (kSnd k) = ((c : Thread nD τ), SemLoc.dma s) := by rw [hs]; rfl
  have e' : own (sndTo c k) (kRcv c) = ((sndTo c k : Thread nD τ), SemLoc.dma s') := by rw [hs']; rfl
  have ep : (Rd m).payload ((c : Thread nD τ), SemLoc.dma s) 0 c = x8P c (sndTo c k) (x8All m c) := by
    rw [← e, payload_cell]; rfl
  have ep' : (Rd m).payload ((sndTo c k : Thread nD τ), SemLoc.dma s') 0 c = rvP (sndTo c k) c (recvAll m (sndTo c k)) := by
    rw [← e', payload_cell]; rfl
  have hO2 : O' = O + tallyAt ((sndTo c k : Thread nD τ), SemLoc.dma s') () nX := hO.trans (by rw [← e'])
  unfold ow
  iintro ⟨#HI, Hx, ⟨%f, Hs⟩, ⟨%W, HO⟩, Ht, #Hr, Ht', #Hr'⟩ Hk
  ihave #Hi := (recs_own m K c (kSnd k)) $$ HI
  ihave #Hi' := (recs_own m K (sndTo c k) (kRcv c)) $$ HI
  rw [e, e']
  iapply (Rounds.wp_send_pointsTo 𝒱₀ ER (Rd m) (c : Thread nD τ) none (c' := (sndTo c k : Thread nD τ)) (src := x8M inb) (dst := rvM inbr)
    (sS := .dma s) (sem := .dma s') (q := fullShare) (fs := x8All m c) (κ₁ := K (c, some (kSnd k)))
    (κ₂ := K (sndTo c k, some (kRcv c))) (r₁ := 0) (r₂ := 0) (d₁ := c) (d₂ := c) (fd := f) (k := Prog.ret)
    (by rw [← e, duties_cell]; exact Finset.mem_singleton_self c)
    (by rw [← e', duties_cell]; rw [show dut (sndTo c k) (some (kRcv c)) 0 = {c} from if_pos ⟨rfl, hne⟩]; exact Finset.mem_singleton_self c)
    () () nX ((rvM_credit inbr).trans nX_eq) (by rw [← e, amount_cell]; rfl) (by rw [← e', amount_cell]; rfl)
    O hO2 (W := W)
    (by rw [ep, x8M_pt c inb hx])
    (by
      rw [ep']
      rw [landed (sndTo c k) (rvM inbr).view f (recvAll m (sndTo c k)) ((x8M inb).view.read (Elt F) (x8All m c))
        ((rvM_read inbr hr _).trans (x8M_read inb hx _).symm), rvM_pt (sndTo c k) inbr hr])) $$ [Hx Hs HO Ht Ht']
  · isplitr; · iexact Hi
    isplitr; · iexact Hi'
    isplitl [Hx]; · rw [x8M_pt c inb hx]; iexact Hx
    isplitl [Hs]; · rw [rvM_pt (sndTo c k) inbr hr]; iexact Hs
    isplitl [HO]; · iexact HO
    isplitl [Ht]; · iexact Ht
    isplitr; · iexact Hr
    isplitl [Ht']; · iexact Ht'
    iexact Hr'
  iintro ⟨Hc, HO⟩
  rw [wp_ret]
  imodintro
  iapply Hk
  isplitl [Hc]; · iexact Hc
  iexists W
  iexact HO

end Copies

/-! ### Loads and stores -/

section Access

/-- A load through a rectangle. -/
theorem st_load {cs : CoreSpace} {s : Shape} {ty : EltTy} {M : Memref sig .tc cs s ty} {r : Rect s}
    {hl : M.view.LoadsAt r.toLoadRect} {q : PosShare TreeShare} {S : Finset (Idx ((M.access r).loc (c : Thread nD τ)))}
    {f : Buf (Elt F) ((M.access r).loc (c : Thread nD τ))} (hS : (M.access r).set ⊆ S) {v : r.shape.Idx → Elt F ty}
    (hv : (M.access r).read (Elt F) f = v) (Kt : (r.shape.Idx → Elt F ty) → sProp 𝕄) :
    ((M.access r).loc (c : Thread nD τ) ↦[S]{q} f)
      ⊢ iprop((((M.access r).loc (c : Thread nD τ) ↦[S]{q} f) -∗ Kt v) -∗ WP c (Prog.lift (.load M r.toLoadRect hl)) Kt) := by
  subst hv
  iintro H Hk
  iapply (wp_load_rect 𝒱₀ (c : Thread nD τ) none Set.univ (m := M) (r := r) (hl := hl) (k := Prog.ret) hS) $$ H
  iintro H
  rw [wp_ret]
  imodintro
  iapply Hk
  iexact H

/-- A store through a rectangle, to contents that read there as what is stored. -/
theorem st_store {cs : CoreSpace} {s : Shape} {ty : EltTy} {M : Memref sig .tc cs s ty} {r : Rect s}
    {w : r.shape.Idx → Elt F ty} {hx : (M.access r).Stores Finset.univ} {hm : (Finset.univ : Finset r.shape.Idx) = Finset.univ ∨ ∀ a, r.stride a = 1}
    (f G : Buf (Elt F) ((M.access r).loc (c : Thread nD τ))) (hG : (M.access r).read (Elt F) G = w)
    (Kt : PUnit → sProp 𝕄) :
    ((M.access r).loc (c : Thread nD τ) ↦[(M.access r).set]{fullShare} f)
      ⊢ iprop((((M.access r).loc (c : Thread nD τ) ↦[(M.access r).set]{fullShare} G) -∗ Kt ⟨⟩)
          -∗ WP c (Prog.lift (.store M r w Finset.univ hx hm)) Kt) := by
  iintro H Hk
  iapply (wp_store 𝒱₀ (c : Thread nD τ) none Set.univ (m := M) (r := r) (w := w) (Mk := Finset.univ) (hx := hx) (hm := hm)
    (k := Prog.ret) (Finset.Subset.refl (M.access r).set)) $$ H
  iintro H
  rw [wp_ret]
  imodintro
  iapply Hk
  rw [← landed c (M.access r) f G w hG]
  iexact H

variable {off : Fin 3 → Nat} (inb : ∀ a, off a + S1x1024x1024.size a ≤ S4x1024x1024.size a)
variable {off1 : Fin 3 → Nat} (inb1 : ∀ a, off1 a + S1x1024x1024.size a ≤ S2x1024x1024.size a)
variable {off3 : Fin 2 → Nat} (inb3 : ∀ a, off3 a + S1024x1024.size a ≤ S1024x8192.size a)

theorem x8A_pt {b : Fin 4} (h : off = ![b.val, 0, 0]) (f : S4x1024x1024.Idx → F .fp8e5m2) :
    ((x8A inb).loc (c : Thread nD τ) ↦[(x8A inb).set]{fullShare} f : sProp 𝕄) = x8P c b f :=
  congrArg (fun S : Finset S4x1024x1024.Idx => ((c : Thread nD τ).loc cc0_scratch1 ↦[S]{fullShare} f : sProp 𝕄)) (x8A_set inb h)
theorem rvA_pt {b : Fin 4} (h : off = ![b.val, 0, 0]) (f : S4x1024x1024.Idx → F .fp8e5m2) :
    ((rvA inb).loc (c : Thread nD τ) ↦[(rvA inb).set]{fullShare} f : sProp 𝕄) = rvP c b f :=
  congrArg (fun S : Finset S4x1024x1024.Idx => ((c : Thread nD τ).loc cc0_scratch2 ↦[S]{fullShare} f : sProp 𝕄)) (rvA_set inb h)
theorem stA_pt {i : Fin 2} (h : off1 = ![i.val, 0, 0]) (f : S2x1024x1024.Idx → F .f32) :
    ((stA inb1).loc (c : Thread nD τ) ↦[(stA inb1).set]{fullShare} f : sProp 𝕄) = stP c i f :=
  congrArg (fun S : Finset S2x1024x1024.Idx => ((c : Thread nD τ).loc cc0_scratch0 ↦[S]{fullShare} f : sProp 𝕄)) (stA_set inb1 h)
theorem acA_pt {j : Fin 8} (h : off3 = ![0, 1024 * j.val]) (f : S1024x8192.Idx → F .f32) :
    ((acA inb3).loc (c : Thread nD τ) ↦[(acA inb3).set]{fullShare} f : sProp 𝕄) = acP c j f :=
  congrArg (fun S : Finset S1024x8192.Idx => ((c : Thread nD τ).loc cc0_scratch5 ↦[S]{fullShare} f : sProp 𝕄)) (acA_set inb3 h)

theorem ld_st {i : Fin 2} (h : off1 = ![i.val, 0, 0]) (G : S1x1024x1024.Idx → F .f32) {hl} (Kt) :
    stP c i (stageBuf G) ⊢ iprop((stP c i (stageBuf G) -∗ Kt G)
      -∗ WP c (Prog.lift (.load bStg (Rect.unit (s := S2x1024x1024) off1 S1x1024x1024.size inb1).toLoadRect hl)) Kt) := by
  rw [← stA_pt c inb1 h]
  exact st_load c (Finset.Subset.refl _) (stA_read inb1 h G) Kt

theorem ld_x8 {b : Fin 4} (h : off = ![b.val, 0, 0]) (G : Fin 4 → S1x1024x1024.Idx → F .fp8e5m2) {hl} (Kt) :
    x8P c b (slotBuf G) ⊢ iprop((x8P c b (slotBuf G) -∗ Kt (G b))
      -∗ WP c (Prog.lift (.load bX8 (Rect.unit (s := S4x1024x1024) off S1x1024x1024.size inb).toLoadRect hl)) Kt) := by
  rw [← x8A_pt c inb h]
  exact st_load c (Finset.Subset.refl _) (x8A_read inb h G) Kt

theorem lda_x8 {b : Fin 4} (h : off = ![b.val, 0, 0]) (f : S4x1024x1024.Idx → F .fp8e5m2) {hl} (Kt) :
    x8P c b f ⊢ iprop((∀ v, x8P c b f -∗ Kt v)
      -∗ WP c (Prog.lift (.load bX8 (Rect.unit (s := S4x1024x1024) off S1x1024x1024.size inb).toLoadRect hl)) Kt) := by
  rw [← x8A_pt c inb h]
  iintro H Hk
  iapply (st_load c (Finset.Subset.refl _) rfl Kt) $$ H
  iapply Hk

theorem ld_rv {b : Fin 4} (h : off = ![b.val, 0, 0]) (G : Fin 4 → S1x1024x1024.Idx → F .fp8e5m2) {hl} (Kt) :
    rvP c b (slotBuf G) ⊢ iprop((rvP c b (slotBuf G) -∗ Kt (G b))
      -∗ WP c (Prog.lift (.load bRv (Rect.unit (s := S4x1024x1024) off S1x1024x1024.size inb).toLoadRect hl)) Kt) := by
  rw [← rvA_pt c inb h]
  exact st_load c (Finset.Subset.refl _) (rvA_read inb h G) Kt

theorem lda_rv {b : Fin 4} (h : off = ![b.val, 0, 0]) (f : S4x1024x1024.Idx → F .fp8e5m2) {hl} (Kt) :
    rvP c b f ⊢ iprop((∀ v, rvP c b f -∗ Kt v)
      -∗ WP c (Prog.lift (.load bRv (Rect.unit (s := S4x1024x1024) off S1x1024x1024.size inb).toLoadRect hl)) Kt) := by
  rw [← rvA_pt c inb h]
  iintro H Hk
  iapply (st_load c (Finset.Subset.refl _) rfl Kt) $$ H
  iapply Hk

theorem ld_ac {j : Fin 8} (h : off3 = ![0, 1024 * j.val]) (G : Fin 8 → S1024x1024.Idx → F .f32) {hl} (Kt) :
    acP c j (colBuf G) ⊢ iprop((acP c j (colBuf G) -∗ Kt (G j))
      -∗ WP c (Prog.lift (.load bAcc (Rect.unit (s := S1024x8192) off3 S1024x1024.size inb3).toLoadRect hl)) Kt) := by
  rw [← acA_pt c inb3 h]
  exact st_load c (Finset.Subset.refl _) (acA_read inb3 h G) Kt

theorem lda_ac {j : Fin 8} (h : off3 = ![0, 1024 * j.val]) (f : S1024x8192.Idx → F .f32) {hl} (Kt) :
    acP c j f ⊢ iprop((∀ v, acP c j f -∗ Kt v)
      -∗ WP c (Prog.lift (.load bAcc (Rect.unit (s := S1024x8192) off3 S1024x1024.size inb3).toLoadRect hl)) Kt) := by
  rw [← acA_pt c inb3 h]
  iintro H Hk
  iapply (st_load c (Finset.Subset.refl _) rfl Kt) $$ H
  iapply Hk

theorem sto_x8 {b : Fin 4} (h : off = ![b.val, 0, 0]) {w : S1x1024x1024.Idx → F .fp8e5m2} (G : Fin 4 → S1x1024x1024.Idx → F .fp8e5m2)
    (hw : G b = w) (f : S4x1024x1024.Idx → F .fp8e5m2) {hx hm} (Kt) :
    x8P c b f ⊢ iprop((x8P c b (slotBuf G) -∗ Kt ⟨⟩)
      -∗ WP c (Prog.lift (.store bX8 (Rect.unit (s := S4x1024x1024) off S1x1024x1024.size inb) w Finset.univ hx hm)) Kt) := by
  rw [← x8A_pt c inb h f, ← x8A_pt c inb h (slotBuf G)]
  exact st_store c (M := bX8) (r := Rect.unit (s := S4x1024x1024) off S1x1024x1024.size inb) (w := w) (hx := hx) (hm := hm) f (slotBuf G)
    ((x8A_read inb h G).trans hw) Kt

theorem sto_rv {b : Fin 4} (h : off = ![b.val, 0, 0]) {w : S1x1024x1024.Idx → F .fp8e5m2} (G : Fin 4 → S1x1024x1024.Idx → F .fp8e5m2)
    (hw : G b = w) (f : S4x1024x1024.Idx → F .fp8e5m2) {hx hm} (Kt) :
    rvP c b f ⊢ iprop((rvP c b (slotBuf G) -∗ Kt ⟨⟩)
      -∗ WP c (Prog.lift (.store bRv (Rect.unit (s := S4x1024x1024) off S1x1024x1024.size inb) w Finset.univ hx hm)) Kt) := by
  rw [← rvA_pt c inb h f, ← rvA_pt c inb h (slotBuf G)]
  exact st_store c (M := bRv) (r := Rect.unit (s := S4x1024x1024) off S1x1024x1024.size inb) (w := w) (hx := hx) (hm := hm) f (slotBuf G)
    ((rvA_read inb h G).trans hw) Kt

theorem sto_ac {j : Fin 8} (h : off3 = ![0, 1024 * j.val]) {w : S1024x1024.Idx → F .f32} (G : Fin 8 → S1024x1024.Idx → F .f32)
    (hw : G j = w) (f : S1024x8192.Idx → F .f32) {hx hm} (Kt) :
    acP c j f ⊢ iprop((acP c j (colBuf G) -∗ Kt ⟨⟩)
      -∗ WP c (Prog.lift (.store bAcc (Rect.unit (s := S1024x8192) off3 S1024x1024.size inb3) w Finset.univ hx hm)) Kt) := by
  rw [← acA_pt c inb3 h f, ← acA_pt c inb3 h (colBuf G)]
  exact st_store c (M := bAcc) (r := Rect.unit (s := S1024x8192) off3 S1024x1024.size inb3) (w := w) (hx := hx) (hm := hm) f (colBuf G)
    ((acA_read inb3 h G).trans hw) Kt

/-! Whole buffers of one shape. -/

/-- Reading through the rectangle of a whole memref at offset zero is reading through the memref. -/
theorem access_zero {sp : Space} {s : Shape} {ty : EltTy} (M : Memref sig .tc sp s ty) {off : Fin s.rank → Nat}
    (h : off = fun _ => 0) (inb : ∀ a, off a + s.size a ≤ s.size a) (f : M.view.ty.Contents (Elt F)) :
    (M.access (Rect.unit off s.size inb)).read (Elt F) f = M.view.read (Elt F) f := by
  subst h
  funext x
  refine congrArg (M.view.read (Elt F) f) (funext fun a => Fin.ext ?_)
  show 0 + 1 * (x a).val = (x a).val
  omega

/-- A whole load of what a memref reads as `X`. -/
theorem ld_owns {cs : CoreSpace} {s : Shape} {ty : EltTy} (M : Memref sig .tc cs s ty) {off : Fin s.rank → Nat}
    (h : off = fun _ => 0) (inb : ∀ a, off a + s.size a ≤ s.size a) {q : PosShare TreeShare} (X : s.Idx → Elt F ty) {hl} (Kt) :
    (owns (c : Thread nD τ) M q X : sProp 𝕄) ⊢ iprop((owns (c : Thread nD τ) M q X -∗ Kt X)
      -∗ WP c (Prog.lift (.load M (Rect.unit off s.size inb).toLoadRect hl)) Kt) := by
  unfold owns
  iintro ⟨%f, %hf, H⟩ Hk
  iapply (st_load c (M := M) (r := Rect.unit off s.size inb) (S := M.view.set) (View.set_slice_subset _ _)
    ((access_zero M h inb f).trans hf) Kt) $$ H
  iintro H
  iapply Hk
  iexists f
  isplitr; · ipureintro; exact hf
  iexact H

end Access

end Cert.KernelIdeal.Ring
-- ==== Proof.Names.lean ====
/- The printed names of semaphores and table words, as the protocol's; and when each panel's copy starts. -/
module

public import proofs.«01_k».proof.Proof.Steps

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ### Sequencing -/

/-- One piece of the program, then the rest. -/
theorem st_bind {α β : Type} (c : Dev nD) (p : Prog (TpuEff nD τ sig (Elt F) Λ₀ .tc) α)
    (k : α → Prog (TpuEff nD τ sig (Elt F) Λ₀ .tc) β) (Kt : β → sProp 𝕄) :
    WP c p (fun a => WP c (k a) Kt) ⊢ WP c (p >>= k) Kt :=
  BIBase.Entails.of_eq (wp_bind _ _ _ p k Kt).symm
/-- Its end. -/
theorem st_pure {α : Type} (c : Dev nD) (a : α) (Kt : α → sProp 𝕄) :
    Kt a ⊢ WP c (pure a : Prog (TpuEff nD τ sig (Elt F) Λ₀ .tc) α) Kt := by
  show _ ⊢ wp frame (wpE (defs₀ (F := F)) 𝒱₀ (c : Thread nD τ) none) Set.univ (pure a) Kt
  iintro H
  rw [wp_pure]
  imodintro
  iexact H
/-- A condition that holds; one that does not. -/
theorem st_pos {α : Type} {C : Prop} [Decidable C] (h : C) (c : Dev nD) (p : C → Prog (TpuEff nD τ sig (Elt F) Λ₀ .tc) α)
    (q : ¬C → Prog (TpuEff nD τ sig (Elt F) Λ₀ .tc) α) (Kt : α → sProp 𝕄) :
    WP c (p h) Kt ⊢ WP c (if h : C then p h else q h) Kt := by rw [dif_pos h]
theorem st_neg {α : Type} {C : Prop} [Decidable C] (h : ¬C) (c : Dev nD) (p : C → Prog (TpuEff nD τ sig (Elt F) Λ₀ .tc) α)
    (q : ¬C → Prog (TpuEff nD τ sig (Elt F) Λ₀ .tc) α) (Kt : α → sProp 𝕄) :
    WP c (q h) Kt ⊢ WP c (if h : C then p h else q h) Kt := by rw [dif_neg h]
/-- A check that holds. -/
theorem st_assume {P : Prop} (h : P) (d : Decidable P) (c : Dev nD) (Kt : PLift P → sProp 𝕄) :
    Kt ⟨h⟩ ⊢ WP c (Prog.lift (TpuEff.assume P d)) Kt := by
  show _ ⊢ wp frame (wpE (defs₀ (F := F)) 𝒱₀ (c : Thread nD τ) none) Set.univ (.op (.assume P d) .ret) Kt
  iintro H
  rw [wp_assume_of 𝒱₀ _ _ _ h, wp_ret]
  imodintro
  iexact H

/-! ### Semaphores -/

/-- The semaphore at a place of a one-dimensional array of consecutive ones. -/
theorem pool_val {n base N : Nat} (h : base + (⟨1, ![n]⟩ : Shape).numel ≤ N) {off : Fin 1 → Nat} {k : Nat} (ho : off = ![k])
    (inb : ∀ a, off a + S1.size a ≤ (⟨1, ![n]⟩ : Shape).size a) :
    ((((SemArray.consecutive base ⟨1, ![n]⟩ h).slice (Rect.unit (s := ⟨1, ![n]⟩) off S1.size inb)).squeeze S_ squeezes_S1_S_).sem : Fin N).val
      = base + k := by
  subst ho
  let j : (Rect.unit (s := ⟨1, ![n]⟩) ![k] S1.size inb).shape.Idx :=
    Shape.reshapeEquiv (Shape.Squeezes.numel_eq squeezes_S1_S_) (fun i : Fin 0 => i.elim0)
  show base + ((⟨1, ![n]⟩ : Shape).rowMajor ((Rect.unit (s := ⟨1, ![n]⟩) ![k] S1.size inb).emb j)).val = base + k
  have hj : (j 0).val < 1 := (j 0).isLt
  have e0 : (((Rect.unit (s := ⟨1, ![n]⟩) ![k] S1.size inb).emb j) 0).val = k + 1 * (j 0).val := Rect.emb_apply _ _ _
  have e1 := Shape.rowMajorPi_succ_val (n := 0) ![n] ((Rect.unit (s := ⟨1, ![n]⟩) ![k] S1.size inb).emb j)
  have e2 : ∀ (d : Fin 0 → Nat) x, (Shape.rowMajorPi d x).val = 0 := fun d x => by
    have := (Shape.rowMajorPi d x).isLt; simp at this; omega
  rw [e2] at e1
  have e3 : (((Rect.unit (s := ⟨1, ![n]⟩) ![k] S1.size inb).emb j) 0).val = k := by omega
  refine congrArg (base + ·) (e1.trans ((congrArg (fun z => z * (∏ a : Fin 0, ![n] a.succ) + 0) e3).trans ?_))
  simp

theorem stg_sem (i : Fin 2) {off : Fin 1 → Nat} (h : off = ![i.val]) (inb : ∀ a, off a + S1.size a ≤ S2.size a) :
    SemLoc.dma ((cc0_scratch6.slice (Rect.unit (s := S2) off S1.size inb)).squeeze S_ squeezes_S1_S_).sem = osem (kStg i) :=
  congrArg SemLoc.dma (Fin.ext (pool_val _ h inb))
theorem snd_sem (i : Fin 3) {off : Fin 1 → Nat} (h : off = ![i.val]) (inb : ∀ a, off a + S1.size a ≤ S3.size a) :
    SemLoc.dma ((cc0_scratch7.slice (Rect.unit (s := S3) off S1.size inb)).squeeze S_ squeezes_S1_S_).sem = osem (kSnd i) :=
  congrArg SemLoc.dma (Fin.ext (pool_val _ h inb))
theorem rcv_sem (i : Fin 4) {off : Fin 1 → Nat} (h : off = ![i.val]) (inb : ∀ a, off a + S1.size a ≤ S4.size a) :
    SemLoc.dma ((cc0_scratch8.slice (Rect.unit (s := S4) off S1.size inb)).squeeze S_ squeezes_S1_S_).sem = osem (kRcv i) :=
  congrArg SemLoc.dma (Fin.ext (pool_val _ h inb))
theorem out_sem (i : Fin 8) {off : Fin 1 → Nat} (h : off = ![i.val]) (inb : ∀ a, off a + S1.size a ≤ S8.size a) :
    SemLoc.dma ((cc0_scratch9.slice (Rect.unit (s := S8) off S1.size inb)).squeeze S_ squeezes_S1_S_).sem = osem (kOut i) :=
  congrArg SemLoc.dma (Fin.ext (pool_val _ h inb))
theorem bar_sem : SemLoc.reg (SemArray.scalar (sig.barrier 0 rfl) : Sems sig S_).sem = loc none := rfl
theorem end_sem : SemLoc.reg (cc0_scoped0 : Sems sig S_).sem = loc (some kEnd) := rfl

/-! ### The table -/

/-- A word of the table. -/
theorem ld_tab (c : Dev nD) (k : Fin 4) {off : Fin 1 → Nat} (h : off = ![k.val]) (inb : ∀ a, off a + S1.size a ≤ S4.size a)
    {h1 hp} (Kt : BitVec 32 → sProp 𝕄) :
    ((c : Thread nD τ).loc main_v7 ↦{fullShare} (tab c : S4.Idx → Elt F .i32))
      ⊢ iprop((((c : Thread nD τ).loc main_v7 ↦{fullShare} (tab c : S4.Idx → Elt F .i32)) -∗ Kt (w_ (at_ c (sig_ k))))
        -∗ WP c (smemLoad bTab (Rect.unit (s := S4) off S1.size inb) h1 hp) Kt) := by
  subst h
  unfold smemLoad
  iintro H Hk
  iapply (wp_smemLoadElt 𝒱₀ (c : Thread nD τ) none Set.univ (m := bTab) (r := Rect.unit (s := S4) ![k.val] S1.size inb)
    (S := Finset.univ) (f := (tab c : S4.Idx → Elt F .i32)) (Finset.subset_univ _)) $$ H
  iintro H
  rw [wp_ret]
  imodintro
  have e : (bTab.access (Rect.unit (s := S4) ![k.val] S1.size inb)).read (Elt F) (tab c : S4.Idx → Elt F .i32)
      (Shape.Idx.first (h1.symm ▸ Nat.one_pos)) = w_ (at_ c (sig_ k)) := by
    show w_ (at_ c (sig_ _)) = _
    refine congrArg (fun z => w_ (at_ c (sig_ z))) (Fin.ext ?_)
    refine (Rect.emb_apply _ _ _).trans ?_
    show k.val + 1 * _ = k.val
    have : ((Shape.Idx.first (h1.symm ▸ Nat.one_pos : 0 < (Rect.unit (s := S4) ![k.val] S1.size inb).shape.numel)) 0).val < 1 :=
      ((Shape.Idx.first (h1.symm ▸ Nat.one_pos : 0 < (Rect.unit (s := S4) ![k.val] S1.size inb).shape.numel)) 0).isLt
    omega
  rw [e]
  iapply Hk
  iexact H

/-- The one element of a one-element buffer in scalar memory. -/
theorem ld_one (c : Dev nD) (M : Memref sig .tc .smem S1 .f32) (inb : ∀ a, (![0] : Fin 1 → Nat) a + S1.size a ≤ S1.size a)
    {h1 hp} {q : PosShare TreeShare} (X : S1.Idx → F .f32) (Kt : F .f32 → sProp 𝕄) :
    (owns (c : Thread nD τ) M q (X : S1.Idx → Elt F .f32) : sProp 𝕄)
      ⊢ iprop((owns (c : Thread nD τ) M q (X : S1.Idx → Elt F .f32) -∗ Kt (X one_))
        -∗ WP c (smemLoad M (Rect.unit (s := S1) ![0] S1.size inb) h1 hp) Kt) := by
  unfold smemLoad owns
  iintro ⟨%f, %hf, H⟩ Hk
  iapply (wp_smemLoadElt 𝒱₀ (c : Thread nD τ) none Set.univ (m := M) (r := Rect.unit (s := S1) ![0] S1.size inb)
    (S := M.view.set) (f := f) (View.set_slice_subset _ _)) $$ H
  iintro H
  rw [wp_ret]
  imodintro
  have hz : (![0] : Fin 1 → Nat) = fun _ => 0 := by decide
  have e : (M.access (Rect.unit (s := S1) ![0] S1.size inb)).read (Elt F) f
      (Shape.Idx.first (h1.symm ▸ Nat.one_pos)) = X one_ := by
    refine (congrFun ((access_zero M hz inb f).trans hf) _).trans (congrArg X (funext fun a => Fin.ext ?_))
    have h2 := ((Shape.Idx.first (h1.symm ▸ Nat.one_pos : 0 < (Rect.unit (s := S1) ![0] S1.size inb).shape.numel)) a).isLt
    have h3 : (Rect.unit (s := S1) ![0] S1.size inb).shape.size a = 1 := by
      rw [Subsingleton.elim a 0]; rfl
    have h4 : (one_ a).val = 0 := rfl
    omega
  rw [e]
  iapply Hk
  iexists f
  isplitr; · ipureintro; exact hf
  iexact H

/-! ### Whole stores -/

/-- A whole store. -/
theorem sto_owns (c : Dev nD) {cs : CoreSpace} {s : Shape} {ty : EltTy} (M : Memref sig .tc cs s ty) {off : Fin s.rank → Nat}
    (h : off = fun _ => 0) (inb : ∀ a, off a + s.size a ≤ s.size a) (w : (Rect.unit off s.size inb).shape.Idx → Elt F ty)
    {hx : (M.access (Rect.unit off s.size inb)).Stores Finset.univ}
    {hm : (Finset.univ : Finset (Rect.unit off s.size inb).shape.Idx) = Finset.univ ∨ ∀ a, (Rect.unit off s.size inb).stride a = 1}
    (Kt : PUnit → sProp 𝕄) :
    iprop(∃ X, owns (c : Thread nD τ) M fullShare X : sProp 𝕄) ⊢ iprop((owns (c : Thread nD τ) M fullShare w -∗ Kt ⟨⟩)
      -∗ WP c (Prog.lift (.store M (Rect.unit off s.size inb) w Finset.univ hx hm)) Kt) := by
  unfold owns
  iintro ⟨%X, %f, %hf, H⟩ Hk
  iapply (wp_store 𝒱₀ (c : Thread nD τ) none Set.univ (m := M) (r := Rect.unit off s.size inb) (w := w) (Mk := Finset.univ)
    (hx := hx) (hm := hm) (k := Prog.ret) (View.set_slice_subset _ _)) $$ H
  iintro H
  rw [wp_ret]
  imodintro
  iapply Hk
  iexists _
  isplitr
  · ipureintro
    exact (access_zero M h inb _).symm.trans (View.read_write_univ (v := M.access (Rect.unit off s.size inb)) f w)
  iexact H

/-! ### When the panels go out -/

theorem off11_eq : ∀ t : Fin grid0.N, k0_off11 (grid0.coords t) = ![0, 1024 * (t.val % 8)] := by decide +kernel
theorem off12_eq : ∀ t : Fin grid0.N, k0_off12 (grid0.coords t) = ![0, 1024 * (t.val % 8)] := by decide +kernel
theorem off13_eq : ∀ t : Fin grid0.N, k0_off13 (grid0.coords t) = ![0, 1024 * (t.val % 8)] := by decide +kernel

theorem out_iff : ∀ (j : Fin 8) (t : Fin grid0.N),
    (Scalar.cmpi .ne (Scalar.extui (Scalar.andi (Scalar.cmpi .eq (BitVec.ofNat 32 (grid0.coords t 0).val) 3#32)
      (Scalar.cmpi .eq (BitVec.ofNat 32 (grid0.coords t 1).val) (BitVec.ofNat 32 j.val))) : BitVec 32) 0#32 : BitVec 1) = 1#1
      ↔ t.val = 24 + j.val := by
  decide +kernel

end Cert.KernelIdeal.Ring
-- ==== Proof.Opening.lean ====
/- The opening of the body: the entry barrier, the blocks' narrowing, and their sends, part by part as printed. -/
module

public import proofs.«01_k».proof.Proof.Names

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-- What a signal of device `d`'s entry barrier takes. -/
def give (d : Dev nD) : sProp 𝕄 :=
  iprop(dutyTok ER (cell d none) 0 c ∗ pay m d none 0 c ∗ reached ER (cell d none) 0)
/-- What a copy into a staging slot takes. -/
def stgIn (i : Fin 2) (r : ℕ) : sProp 𝕄 :=
  iprop(xP c (stgBlk c i r) (xIn m c) ∗ dutyTok ER (own c (kStg i)) r c ∗ reached ER (own c (kStg i)) r)
/-- What a send takes besides the block and the debt. -/
def sndIn (k : Fin 3) : sProp 𝕄 :=
  iprop((∃ f, rvP (F := F) (sndTo c k) c f) ∗ dutyTok ER (own c (kSnd k)) 0 c ∗ reached ER (own c (kSnd k)) 0
    ∗ dutyTok ER (own (sndTo c k) (kRcv c)) 0 c ∗ reached ER (own (sndTo c k) (kRcv c)) 0)
/-- A staging slot between copies. -/
def stgAt (i : Fin 2) (R : ℕ) : sProp 𝕄 := atPos ER (own c (kStg i)) R ∅ 0
/-- The credit of a copy into a staging slot. -/
def stgCr (i : Fin 2) : sProp 𝕄 := cred (tallyAt (own c (kStg i)) () nB)

variable (i : grid0.Coords) (a4 : Memref sig .tc .vmem S1024x1024 .f32) (h4 : a4.IsWhole)
  (a5 : Memref sig .tc .smem S1 .f32) (h5 : a5.IsWhole) (a6 : Memref sig .tc .smem S1 .f32) (h6 : a6.IsWhole)
  (hw : k0_chk1 i (w_ c)) (h1 : k0_cond1 i = 1#1)

theorem mem_dut_bar : ∀ (c : Dev nD) (k : Fin 3), c ∈ dut (at_ c k.succ) none 0 := by decide

theorem card_bar : ∀ c : Dev nD, 3 = (dut c none 0).card * amt none := by decide

theorem above_mid (c : Dev nD) : Above 0 (oEnd c + tR (at_ c 2) c + tR (at_ c 3) c) :=
  ((((above_oEnd c).mono (by decide)).add ((above_tR _ _).mono (by decide))).add ((above_tR _ _).mono (by decide)))
theorem above_last (c : Dev nD) : Above 0 (oEnd c + tR (at_ c 2) c) :=
  ((above_oEnd c).mono (by decide)).add ((above_tR _ _).mono (by decide))

theorem pay_stg (k : Fin 2) (r : ℕ) (d : Dev nD) : pay m c (some (kStg k)) r d
    = iprop(stP c k (stageBuf (stVec m c (stgBlk c k r))) ∗ xP c (stgBlk c k r) (xIn m c)) := rfl
theorem pay_snd (k : Fin 3) (d : Dev nD) : pay m c (some (kSnd k)) 0 d = x8P c (sndTo c k) (x8All m c) := rfl
theorem pay_rcv (b d : Dev nD) : pay m c (some (kRcv b)) 0 d = rvP c b (recvAll m c) := rfl
theorem pay_out (j : Fin 8) (d : Dev nD) : pay m c (some (kOut j)) 0 d
    = iprop(ouP c j (outAll m c) ∗ acP c j (outAll m c)) := rfl

theorem stg00 : stgBlk c 0 0 = at_ c 1 := rfl
theorem stg01 : stgBlk c 0 1 = at_ c 3 := rfl
theorem stg10 : stgBlk c 1 0 = at_ c 0 := rfl
theorem stg11 : stgBlk c 1 1 = at_ c 2 := rfl

theorem at_zero : ∀ c : Dev nD, at_ c 0 = c := by decide

theorem dut_stg (k : Fin 2) (r : ℕ) (h : r < 2) : dut c (some (kStg k)) r = {c} := if_pos h

/-- The first two signals of the entry barrier. -/
theorem part1 (Kt : (Σ' (_ : Sems sig S_) (_ : BitVec 32) (_ : BitVec 32) (_ : BitVec 1), BitVec 32) → sProp 𝕄) :
    iprop(recs m K ∗ ow c (O₀ c) ∗ give m c (at_ c 1) ∗ give m c (at_ c 2))
      ⊢ iprop((∀ x1 x2 x3 x4, ow c (oSnd c + tB (at_ c 3)) -∗ Kt ⟨SemArray.scalar (sig.barrier 0 rfl), x1, x2, x3, x4⟩)
          -∗ WP c (k0_part1 (F := F) i bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0 (w_ c) hw h1) Kt) := by
  rw [k0_part1_eq_skeleton]
  unfold k0_part1_skel give
  dsimp -proj only
  iintro ⟨#HI, HO, ⟨Ht, Hp, Hr⟩, ⟨Ht', Hp', Hr'⟩⟩ Hk
  iapply st_bind
  iapply (st_signal m K c (at_ c 1) none (mem_dut_bar c 0) rfl bar_sem (Fin.ext (dev1_eq c)) (oSnd c + tB (at_ c 3) + tB (at_ c 2)) rfl)
    $$ [HO Ht Hp Hr]
  · isplitr; · iexact HI
    isplitl [HO]; · iexact HO
    isplitl [Ht]; · iexact Ht
    isplitl [Hp]; · iexact Hp
    iexact Hr
  iintro HO
  iapply st_bind
  iapply (st_signal m K c (at_ c 2) none (mem_dut_bar c 1) rfl bar_sem (Fin.ext (dev2_eq c)) (oSnd c + tB (at_ c 3)) rfl)
    $$ [HO Ht' Hp' Hr']
  · isplitr; · iexact HI
    isplitl [HO]; · iexact HO
    isplitl [Ht']; · iexact Ht'
    isplitl [Hp']; · iexact Hp'
    iexact Hr'
  iintro HO
  iapply st_pure
  iapply Hk
  iexact HO

/-- Its last signal, and the wait for the other devices'. -/
theorem part2 (x1 x2 : BitVec 32) (x3 : BitVec 1) (x4 : BitVec 32)
    (Kt : (Σ' (_ : BitVec 32) (_ : BitVec 32) (_ : BitVec 32), BitVec 32) → sProp 𝕄) :
    iprop(recs m K ∗ levAts L lv ∗ ow c (oSnd c + tB (at_ c 3)) ∗ give m c (at_ c 3) ∗ cred (tallyAt (bar c) () 3) ∗ atPos ER (bar c) 0 ∅ 0)
      ⊢ iprop((∀ r, (ow c (oSnd c) ∗ atPos ER (bar c) 1 ∅ 0 ∗ bigSep (dut c none 0) (fun d => pay m c none 0 d)) -∗ Kt r)
          -∗ WP c (k0_part2 (F := F) i bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0 (w_ c) hw h1 (SemArray.scalar (sig.barrier 0 rfl)) x1 x2 x3 x4) Kt) := by
  rw [k0_part2_eq_skeleton]
  unfold k0_part2_skel give
  dsimp -proj only
  iintro ⟨#HI, #Hlev, HO, ⟨Ht, Hp, Hr⟩, Hc, Ha⟩ Hk
  iapply st_bind
  iapply (st_signal m K c (at_ c 3) none (mem_dut_bar c 2) rfl bar_sem (Fin.ext (dev3_eq c)) (oSnd c) rfl)
    $$ [HO Ht Hp Hr]
  · isplitr; · iexact HI
    isplitl [HO]; · iexact HO
    isplitl [Ht]; · iexact Ht
    isplitl [Hp]; · iexact Hp
    iexact Hr
  iintro HO
  iapply st_bind
  iapply (st_wait m K c none 0 bar_sem (a := 3) (by decide) (card_bar c) (n := 1) (Nat.le_refl 1) (above_oSnd c)) $$ [HO Hc Ha]
  · isplitr; · iexact HI
    isplitr; · iexact Hlev
    isplitl [HO]; · iexact HO
    isplitl [Hc]; · iexact Hc
    iexact Ha
  iintro H
  iapply st_pure
  iapply Hk
  iexact H

/-- The first two copies into the staging slots. -/
theorem part3 (x1 x2 x3 x4 : BitVec 32) (Kt : (Σ' (_ : BitVec 32), BitVec 32) → sProp 𝕄) :
    iprop(recs m K ∗ stgIn m c 0 0 ∗ stgIn m c 1 0 ∗ (∃ f, stP (F := F) c 0 f) ∗ (∃ f, stP (F := F) c 1 f))
      ⊢ iprop((∀ r, (stgCr (F := F) c 0 ∗ stgCr (F := F) c 1) -∗ Kt r)
          -∗ WP c (k0_part3 (F := F) i bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0 (w_ c) hw h1 x1 x2 x3 x4) Kt) := by
  rw [k0_part3_eq_skeleton]
  unfold k0_part3_skel stgIn stgCr
  dsimp -proj only
  iintro ⟨#HI, ⟨Hx, Ht, Hr⟩, ⟨Hx', Ht', Hr'⟩, Hs, Hs'⟩ Hk
  iapply st_bind
  iapply (st_stage m K c _ _ 0 0 (by decide) (off2_eq c 1) rfl (stg_sem 0 rfl _)) $$ [Hx Hs Ht Hr]
  · isplitr; · iexact HI
    isplitl [Hx]; · iexact Hx
    isplitl [Hs]; · iexact Hs
    isplitl [Ht]; · iexact Ht
    iexact Hr
  iintro Hc
  iapply st_bind
  iapply (st_stage m K c _ _ 1 0 (by decide) (off2_eq c 0) rfl (stg_sem 1 rfl _)) $$ [Hx' Hs' Ht' Hr']
  · isplitr; · iexact HI
    isplitl [Hx']; · iexact Hx'
    isplitl [Hs']; · iexact Hs'
    isplitl [Ht']; · iexact Ht'
    iexact Hr'
  iintro Hc'
  iapply st_pure
  iapply Hk
  isplitl [Hc]; · iexact Hc
  iexact Hc'

/-- The first block narrowed and sent, and its slot filled again. -/
theorem part4 (x1 x2 x3 : BitVec 32) (Kt : PUnit → sProp 𝕄) :
    iprop(recs m K ∗ levAts L lv ∗ ow c (oSnd c) ∗ stgCr (F := F) c 0 ∗ stgAt (F := F) c 0 0 ∗ (∃ f, x8P (F := F) c (at_ c 1) f)
        ∗ sndIn (F := F) c 0 ∗ xP c (at_ c 3) (xIn m c) ∗ dutyTok ER (own c (kStg 0)) 1 c)
      ⊢ iprop(((ow c (oEnd c + tR (at_ c 2) c + tR (at_ c 3) c) ∗ stgCr (F := F) c 0 ∗ stgAt (F := F) c 0 1
            ∗ cred (tallyAt (own c (kSnd 0)) () nX) ∗ xP c (at_ c 1) (xIn m c)) -∗ Kt ⟨⟩)
          -∗ WP c (k0_part4 (F := F) i bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0 (w_ c) hw h1 x1 x2 x3) Kt) := by
  rw [k0_part4_eq_skeleton]
  unfold k0_part4_skel stgCr stgAt sndIn
  dsimp -proj only
  iintro ⟨#HI, #Hlev, HO, Hc, Ha, ⟨%f, Hx8⟩, ⟨Hrv, Hts, Hrs, Htr, Hrr⟩, Hxn, Htn⟩ Hk
  iapply st_bind
  iapply (st_waitDma m K c (some (kStg 0)) 0 c (dut_stg c 0 0 (by decide)) (stg_sem 0 rfl _) ((stM_credit _).trans nB_eq) (n := 1)
    (by decide) (above_oSnd c)) $$ [HO Hc Ha]
  · isplitr; · iexact HI
    isplitr; · iexact Hlev
    isplitl [HO]; · iexact HO
    isplitl [Hc]; · iexact Hc
    iexact Ha
  rw [pay_stg, stg00]
  iintro ⟨HO, Ha, #Hr, Hst, Hx⟩
  iapply st_bind
  iapply (ld_st c _ (i := 0) rfl (stVec m c (at_ c 1))) $$ Hst
  iintro Hst
  iapply st_bind
  iapply (lda_x8 c _ (off3_eq c 1) f) $$ Hx8
  iintro %v Hx8
  iapply st_bind
  iapply (sto_x8 c _ (off3_eq c 1) (fun b => x8 m c b) rfl f) $$ Hx8
  iintro Hx8
  iapply st_bind
  iapply (st_send m K c _ 0 _ (off6_eq c 1) (off5_eq c) (snd_sem 0 rfl _) (rcv_sem c (off4_eq c) _) (Fin.ext (dev4_eq c))
    (oEnd c + tR (at_ c 2) c + tR (at_ c 3) c) rfl) $$ [Hx8 Hrv HO Hts Hrs Htr Hrr]
  · isplitr; · iexact HI
    isplitl [Hx8]; · iexact Hx8
    isplitl [Hrv]; · iexact Hrv
    isplitl [HO]; · iexact HO
    isplitl [Hts]; · iexact Hts
    isplitl [Hrs]; · iexact Hrs
    isplitl [Htr]; · iexact Htr
    iexact Hrr
  iintro ⟨Hcs, HO⟩
  iapply st_bind
  iapply (st_stage m K c _ _ 0 1 (by decide) (off2_eq c 3) rfl (stg_sem 0 rfl _)) $$ [Hxn Hst Htn]
  · isplitr; · iexact HI
    isplitl [Hxn]; · iexact Hxn
    isplitl [Hst]; · iexists _; iexact Hst
    isplitl [Htn]; · iexact Htn
    iexact Hr
  iintro Hc
  iapply st_pure
  iapply Hk
  isplitl [HO]; · iexact HO
  isplitl [Hc]; · iexact Hc
  isplitl [Ha]; · iexact Ha
  isplitl [Hcs]; · iexact Hcs
  iexact Hx

/-- The own block narrowed and laid where the others' arrive, its staging slot filled again, and the third block read. -/
theorem part5 (x1 x2 x3 : BitVec 32) (Kt : FVec F S1024x1024 .f32 → sProp 𝕄) :
    iprop(recs m K ∗ levAts L lv ∗ ow c (oEnd c + tR (at_ c 2) c + tR (at_ c 3) c) ∗ stgCr (F := F) c 1 ∗ stgAt (F := F) c 1 0
        ∗ stgCr (F := F) c 0 ∗ stgAt (F := F) c 0 1 ∗ (∃ f, x8P (F := F) c c f) ∗ (∃ f, rvP (F := F) c c f)
        ∗ xP c (at_ c 2) (xIn m c) ∗ dutyTok ER (own c (kStg 1)) 1 c)
      ⊢ iprop(((ow c (oEnd c + tR (at_ c 2) c + tR (at_ c 3) c) ∗ stgCr (F := F) c 1 ∗ stgAt (F := F) c 1 1
            ∗ stgAt (F := F) c 0 2 ∗ (∃ f, stP (F := F) c 0 f) ∗ (∃ f, x8P (F := F) c c f) ∗ rvP c c (recvAll m c)
            ∗ xP c c (xIn m c) ∗ xP c (at_ c 3) (xIn m c)) -∗ Kt (k0_pay4 (stVec m c (at_ c 3))))
          -∗ WP c (k0_part5 (F := F) i bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0 (w_ c) hw h1 x1 x2 x3) Kt) := by
  rw [k0_part5_eq_skeleton]
  unfold k0_part5_skel stgCr stgAt
  dsimp -proj only
  iintro ⟨#HI, #Hlev, HO, Hc, Ha, Hc0, Ha0, ⟨%f, Hx8⟩, ⟨%g, Hrv⟩, Hxn, Htn⟩ Hk
  iapply st_bind
  iapply (st_waitDma m K c (some (kStg 1)) 0 c (dut_stg c 1 0 (by decide)) (stg_sem 1 rfl _) ((stM_credit _).trans nB_eq) (n := 0)
    (by decide) (above_mid c)) $$ [HO Hc Ha]
  · isplitr; · iexact HI
    isplitr; · iexact Hlev
    isplitl [HO]; · iexact HO
    isplitl [Hc]; · iexact Hc
    iexact Ha
  rw [pay_stg, stg10]
  iintro ⟨HO, Ha, #Hr, Hst, Hx⟩
  iapply st_bind
  iapply (ld_st c _ (i := 1) rfl (stVec m c (at_ c 0))) $$ Hst
  iintro Hst
  iapply st_bind
  iapply (lda_x8 c _ ((off3_eq c 0).trans (by rw [at_zero])) f) $$ Hx8
  iintro %v Hx8
  iapply st_bind
  iapply (sto_x8 c _ ((off3_eq c 0).trans (by rw [at_zero])) (fun b => x8 m c b) (by rw [at_zero]; rfl) f) $$ Hx8
  iintro Hx8
  iapply st_bind
  iapply (ld_x8 c _ (off7_eq c) (fun b => x8 m c b)) $$ Hx8
  iintro Hx8
  iapply st_bind
  iapply (lda_rv c _ (off7_eq c) g) $$ Hrv
  iintro %v' Hrv
  iapply st_bind
  iapply (sto_rv c _ (off7_eq c) (fun d => x8 m d c) (pay3_eq _).symm g) $$ Hrv
  iintro Hrv
  iapply st_bind
  iapply (st_stage m K c _ _ 1 1 (by decide) (off2_eq c 2) rfl (stg_sem 1 rfl _)) $$ [Hxn Hst Htn]
  · isplitr; · iexact HI
    isplitl [Hxn]; · iexact Hxn
    isplitl [Hst]; · iexists _; iexact Hst
    isplitl [Htn]; · iexact Htn
    iexact Hr
  iintro Hc
  iapply st_bind
  iapply (st_waitDma m K c (some (kStg 0)) 1 c (dut_stg c 0 1 (by decide)) (stg_sem 0 rfl _) ((stM_credit _).trans nB_eq) (n := 0)
    (by decide) (above_mid c)) $$ [HO Hc0 Ha0]
  · isplitr; · iexact HI
    isplitr; · iexact Hlev
    isplitl [HO]; · iexact HO
    isplitl [Hc0]; · iexact Hc0
    iexact Ha0
  rw [pay_stg, stg01]
  iintro ⟨HO, Ha0, -, Hst0, Hx0⟩
  iapply st_bind
  iapply (ld_st c _ (i := 0) rfl (stVec m c (at_ c 3))) $$ Hst0
  iintro Hst0
  iapply st_pure
  iapply Hk
  isplitl [HO]; · iexact HO
  isplitl [Hc]; · iexact Hc
  isplitl [Ha]; · iexact Ha
  isplitl [Ha0]; · iexact Ha0
  isplitl [Hst0]; · iexists _; iexact Hst0
  isplitl [Hx8]; · iexists _; iexact Hx8
  isplitl [Hrv]; · iexact Hrv
  isplitl [Hx]
  · rw [at_zero]; iexact Hx
  iexact Hx0

/-- The third block narrowed and sent, the last one narrowed. -/
theorem part6 (x1 x2 : BitVec 32) (Kt : PUnit → sProp 𝕄) :
    iprop(recs m K ∗ levAts L lv ∗ ow c (oEnd c + tR (at_ c 2) c + tR (at_ c 3) c) ∗ stgCr (F := F) c 1 ∗ stgAt (F := F) c 1 1
        ∗ (∃ f, x8P (F := F) c (at_ c 3) f) ∗ (∃ f, x8P (F := F) c (at_ c 2) f) ∗ sndIn (F := F) c 2)
      ⊢ iprop(((ow c (oEnd c + tR (at_ c 2) c) ∗ stgAt (F := F) c 1 2 ∗ (∃ f, stP (F := F) c 1 f)
            ∗ cred (tallyAt (own c (kSnd 2)) () nX) ∗ x8P c (at_ c 2) (x8All m c) ∗ xP c (at_ c 2) (xIn m c)) -∗ Kt ⟨⟩)
          -∗ WP c (k0_part6 (F := F) i bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0 (w_ c) hw h1 x1 x2 (k0_pay4 (stVec m c (at_ c 3)))) Kt) := by
  rw [k0_part6_eq_skeleton]
  unfold k0_part6_skel stgCr stgAt sndIn
  dsimp -proj only
  iintro ⟨#HI, #Hlev, HO, Hc, Ha, ⟨%f, Hx8⟩, ⟨%g, Hy8⟩, ⟨Hrv, Hts, Hrs, Htr, Hrr⟩⟩ Hk
  iapply st_bind
  iapply (lda_x8 c _ (off3_eq c 3) f) $$ Hx8
  iintro %v Hx8
  iapply st_bind
  iapply (sto_x8 c _ (off3_eq c 3) (fun b => x8 m c b) (pay54_eq _).symm f) $$ Hx8
  iintro Hx8
  iapply st_bind
  iapply (st_send m K c _ 2 _ (off6_eq c 3) (off5_eq c) (snd_sem 2 rfl _) (rcv_sem c (off4_eq c) _) (Fin.ext (dev5_eq c))
    (oEnd c + tR (at_ c 2) c) rfl) $$ [Hx8 Hrv HO Hts Hrs Htr Hrr]
  · isplitr; · iexact HI
    isplitl [Hx8]; · iexact Hx8
    isplitl [Hrv]; · iexact Hrv
    isplitl [HO]; · iexact HO
    isplitl [Hts]; · iexact Hts
    isplitl [Hrs]; · iexact Hrs
    isplitl [Htr]; · iexact Htr
    iexact Hrr
  iintro ⟨Hcs, HO⟩
  iapply st_bind
  iapply (st_waitDma m K c (some (kStg 1)) 1 c (dut_stg c 1 1 (by decide)) (stg_sem 1 rfl _) ((stM_credit _).trans nB_eq) (n := 0)
    (by decide) (above_last c)) $$ [HO Hc Ha]
  · isplitr; · iexact HI
    isplitr; · iexact Hlev
    isplitl [HO]; · iexact HO
    isplitl [Hc]; · iexact Hc
    iexact Ha
  rw [pay_stg, stg11]
  iintro ⟨HO, Ha, -, Hst, Hx⟩
  iapply st_bind
  iapply (ld_st c _ (i := 1) rfl (stVec m c (at_ c 2))) $$ Hst
  iintro Hst
  iapply st_bind
  iapply (lda_x8 c _ (off3_eq c 2) g) $$ Hy8
  iintro %v' Hy8
  iapply st_bind
  iapply (sto_x8 c _ (off3_eq c 2) (fun b => x8 m c b) (pay6_eq _).symm g) $$ Hy8
  iintro Hy8
  iapply st_pure
  iapply Hk
  isplitl [HO]; · iexact HO
  isplitl [Ha]; · iexact Ha
  isplitl [Hst]; · iexists _; iexact Hst
  isplitl [Hcs]; · iexact Hcs
  isplitl [Hy8]; · iexact Hy8
  iexact Hx

end Cert.KernelIdeal.Ring
-- ==== Proof.State.lean ====
/- The state of one device between two steps of the grid, and how a step changes it. -/
module

public import proofs.«01_k».proof.Proof.Opening

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-! ### Steps as block and panel -/

def sOf (t : Fin grid0.N) : Fin 4 := ⟨t.val / 8, by have := t.isLt; have := N_0; omega⟩
def jOf (t : Fin grid0.N) : Fin 8 := ⟨t.val % 8, Nat.mod_lt _ (by decide)⟩
theorem stp_of (t : Fin grid0.N) : stp (sOf t) (jOf t) = t := Fin.ext (by show 8 * (t.val / 8) + t.val % 8 = t.val; omega)

/-! ### Pieces of the state -/

/-- The table. -/
def tabP : sProp 𝕄 := iprop((c : Thread nD τ).loc main_v7 ↦{fullShare} (tab c : S4.Idx → Elt F .i32))

/-- What only the end of the body uses. -/
def keep : sProp 𝕄 :=
  iprop(bigSep Finset.univ (fun k : Fin 3 => atPos ER (own c (kSnd k)) 0 ∅ 0) ∗ atPos ER (own c kEnd) 0 ∅ 0
    ∗ cred (tallyAt (own c kEnd) () 3) ∗ bigSep Finset.univ (fun k : Fin 3 => dutyTok ER (own (sndTo c k) kEnd) 0 c)
    ∗ bigSep Finset.univ (fun j : Fin 8 => atPos ER (own c (kOut j)) 0 ∅ 0))

/-- What the opening leaves. -/
def sent : sProp 𝕄 :=
  iprop((∃ f, stP (F := F) c 0 f) ∗ (∃ f, stP (F := F) c 1 f) ∗ stgAt (F := F) c 0 2 ∗ stgAt (F := F) c 1 2
    ∗ xP c c (xIn m c) ∗ xP c (at_ c 1) (xIn m c) ∗ xP c (at_ c 2) (xIn m c) ∗ xP c (at_ c 3) (xIn m c)
    ∗ (∃ f, x8P (F := F) c c f)
    ∗ bigSep Finset.univ (fun k : Fin 3 => cred (tallyAt (own c (kSnd k)) () nX))
    ∗ bigSep Finset.univ (fun k : Fin 3 => reached ER (own (sndTo c k) kEnd) 0)
    ∗ atPos ER (bar c) 1 ∅ 0)

/-- The slot of block `s` before step `t`: filled by the device itself, arrived, or awaited. -/
def rcvSt (t : ℕ) (s : Fin 4) : sProp 𝕄 :=
  if s = 0 then iprop(rvP c (at_ c (sig_ s)) (recvAll m c) ∗ atPos ER (own c (kRcv (at_ c (sig_ s)))) 0 ∅ 0)
  else if 8 * s.val < t then iprop(rvP c (at_ c (sig_ s)) (recvAll m c) ∗ atPos ER (own c (kRcv (at_ c (sig_ s)))) 1 ∅ 0)
  else iprop(cred (tallyAt (own c (kRcv (at_ c (sig_ s)))) () nX) ∗ atPos ER (own c (kRcv (at_ c (sig_ s)))) 0 ∅ 0)

/-- Panel `j` of the accumulator after `n` blocks. -/
def acSt (j : Fin 8) : ℕ → sProp 𝕄
  | 0 => iprop(∃ f, acP (F := F) c j f)
  | n + 1 => acP c j (accAll m c (Fin.ofNat 4 n))

theorem acSt_succ (j : Fin 8) (s : Fin 4) : acSt m c j (s.val + 1) = acP c j (accAll m c s) := by
  fin_cases s <;> rfl

/-- What the copy of panel `j` takes besides the panel. -/
def outIn (j : Fin 8) : sProp 𝕄 :=
  iprop((∃ f, ouP (F := F) c j f) ∗ dutyTok ER (own c (kOut j)) 0 c ∗ reached ER (own c (kOut j)) 0)

/-- Panel `j` after `n` blocks: with its copy started after the last. -/
def colSt (j : Fin 8) (n : ℕ) : sProp 𝕄 :=
  if n < 4 then iprop(acSt m c j n ∗ outIn (F := F) c j) else cred (tallyAt (own c (kOut j)) () nB)

/-- How many blocks panel `j` has before step `t`. -/
abbrev cnt (t : ℕ) (j : Fin 8) : ℕ := (t + 7 - j.val) / 8

/-- What does not change during the steps. -/
def base : sProp 𝕄 := iprop(recs m K ∗ levAts L lv ∗ tabP (F := F) c ∗ ow c (oEnd c) ∗ keep (F := F) c ∗ sent m c)

/-- Between steps. -/
def mid (t : ℕ) : sProp 𝕄 :=
  iprop(base m K c ∗ (∃ X, owns (c : Thread nD τ) bW8 fullShare (X : S1024x1024.Idx → Elt F .fp8e5m2))
    ∗ (∃ X, ⌜∀ s : Fin 4, t % 8 ≠ 0 → s.val = t / 8 → X = xc m c s⌝ ∗ owns (c : Thread nD τ) bXc fullShare (X : S1024x1024.Idx → Elt F .fp8e5m2))
    ∗ bigSep Finset.univ (rcvSt m c t) ∗ bigSep Finset.univ (fun j => colSt m c j (cnt t j)))

/-- After the arrival. -/
def mid1 (t : ℕ) : sProp 𝕄 :=
  iprop(base m K c ∗ (∃ X, owns (c : Thread nD τ) bW8 fullShare (X : S1024x1024.Idx → Elt F .fp8e5m2))
    ∗ (∃ X, ⌜∀ s : Fin 4, t % 8 ≠ 0 → s.val = t / 8 → X = xc m c s⌝ ∗ owns (c : Thread nD τ) bXc fullShare (X : S1024x1024.Idx → Elt F .fp8e5m2))
    ∗ bigSep Finset.univ (rcvSt m c (t + 1)) ∗ bigSep Finset.univ (fun j => colSt m c j (cnt t j)))

/-- After the block is read. -/
def mid2 (t : Fin grid0.N) : sProp 𝕄 :=
  iprop(base m K c ∗ (∃ X, owns (c : Thread nD τ) bW8 fullShare (X : S1024x1024.Idx → Elt F .fp8e5m2))
    ∗ owns (c : Thread nD τ) bXc fullShare (xc m c (sOf t))
    ∗ bigSep Finset.univ (rcvSt m c (t.val + 1)) ∗ bigSep Finset.univ (fun j => colSt m c j (cnt t.val j)))

/-- While panel `jOf t` is worked on, with `n` blocks in it. -/
def mid3 (t : Fin grid0.N) (n : ℕ) : sProp 𝕄 :=
  iprop(base m K c ∗ (∃ X, owns (c : Thread nD τ) bW8 fullShare (X : S1024x1024.Idx → Elt F .fp8e5m2))
    ∗ owns (c : Thread nD τ) bXc fullShare (xc m c (sOf t))
    ∗ bigSep Finset.univ (rcvSt m c (t.val + 1)) ∗ bigSep (Finset.univ.erase (jOf t)) (fun j => colSt m c j (cnt (t.val + 1) j))
    ∗ acSt m c (jOf t) n ∗ outIn (F := F) c (jOf t))

/-- While the copies are considered: those before `j` have been. -/
def mid4 (t : Fin grid0.N) (j : ℕ) : sProp 𝕄 :=
  iprop(base m K c ∗ (∃ X, owns (c : Thread nD τ) bW8 fullShare (X : S1024x1024.Idx → Elt F .fp8e5m2))
    ∗ owns (c : Thread nD τ) bXc fullShare (xc m c (sOf t))
    ∗ bigSep Finset.univ (rcvSt m c (t.val + 1)) ∗ bigSep (Finset.univ.erase (jOf t)) (fun j => colSt m c j (cnt (t.val + 1) j))
    ∗ (if t.val / 8 = 3 ∧ t.val % 8 < j then cred (tallyAt (own c (kOut (jOf t))) () nB)
        else iprop(acSt m c (jOf t) (t.val / 8 + 1) ∗ outIn (F := F) c (jOf t))))

/-! ### How they change -/

/-- One member taken out of a family, as the proof mode reads it. -/
theorem take {I : Type} [DecidableEq I] {s : Finset I} {i : I} (h : i ∈ s) (Φ : I → sProp 𝕄) :
    bigSep s Φ = iprop(Φ i ∗ bigSep (s.erase i) Φ) := bigSep_erase h

theorem cnt_at (t : Fin grid0.N) : cnt t.val (jOf t) = (sOf t).val := by
  show (t.val + 7 - t.val % 8) / 8 = t.val / 8
  omega
theorem cnt_at' (t : Fin grid0.N) : cnt (t.val + 1) (jOf t) = (sOf t).val + 1 := by
  show (t.val + 1 + 7 - t.val % 8) / 8 = t.val / 8 + 1
  omega
theorem cnt_ne (t : Fin grid0.N) (j : Fin 8) (h : j ≠ jOf t) : cnt t.val j = cnt (t.val + 1) j := by
  have h' : j.val ≠ t.val % 8 := fun e => h (Fin.ext e)
  show (t.val + 7 - j.val) / 8 = (t.val + 1 + 7 - j.val) / 8
  omega

theorem mid2_mid3 (t : Fin grid0.N) : mid2 m K c t ⊢ mid3 m K c t (sOf t).val := by
  unfold mid2 mid3
  rw [take (Finset.mem_univ (jOf t)) (fun j => colSt m c j (cnt t.val j)), bigSep_congr (s := Finset.univ.erase (jOf t))
    (fun j hj => congrArg (colSt m c j) (cnt_ne t j (Finset.ne_of_mem_erase hj))), cnt_at,
    show colSt m c (jOf t) (sOf t).val = iprop(acSt m c (jOf t) (sOf t).val ∗ outIn (F := F) c (jOf t)) from if_pos (sOf t).isLt]
  iintro ⟨Hb, Hw, Hx, Hr, ⟨Ha, Ho⟩, Hc⟩
  isplitl [Hb]; · iexact Hb
  isplitl [Hw]; · iexact Hw
  isplitl [Hx]; · iexact Hx
  isplitl [Hr]; · iexact Hr
  isplitl [Hc]; · iexact Hc
  isplitl [Ha]; · iexact Ha
  iexact Ho

theorem mid3_mid4 (t : Fin grid0.N) : mid3 m K c t (t.val / 8 + 1) ⊢ mid4 m K c t 0 := by
  unfold mid3 mid4
  rw [if_neg (fun h => absurd h.2 (Nat.not_lt_zero _))]

theorem mid4_mid (t : Fin grid0.N) : mid4 m K c t 8 ⊢ mid m K c (t.val + 1) := by
  unfold mid4 mid
  have e : (if t.val / 8 = 3 ∧ t.val % 8 < 8 then cred (tallyAt (own c (kOut (jOf t))) () nB)
        else iprop(acSt m c (jOf t) (t.val / 8 + 1) ∗ outIn (F := F) c (jOf t)) : sProp 𝕄) = colSt m c (jOf t) (cnt (t.val + 1) (jOf t)) := by
    rw [cnt_at']
    have hlt : t.val / 8 < 4 := (sOf t).isLt
    unfold colSt
    by_cases h : t.val / 8 = 3
    · rw [if_pos ⟨h, Nat.mod_lt _ (by decide)⟩, if_neg (by show ¬ t.val / 8 + 1 < 4; omega)]
    · rw [if_neg (fun h' => h h'.1), if_pos (by show t.val / 8 + 1 < 4; omega)]
      rfl
  rw [e, take (Finset.mem_univ (jOf t)) (fun j => colSt m c j (cnt (t.val + 1) j))]
  iintro ⟨Hb, Hw, Hx, Hr, Hc, H⟩
  isplitl [Hb]; · iexact Hb
  isplitl [Hw]; · iexact Hw
  isplitl [Hx]
  · iexists (xc m c (sOf t))
    isplitr
    · ipureintro
      intro s h1 h2
      exact congrArg (xc m c) (Fin.ext (show t.val / 8 = s.val by omega))
    iexact Hx
  isplitl [Hr]; · iexact Hr
  isplitl [H]; · iexact H
  iexact Hc

/-- The slots that a step does not wait for. -/
theorem rcvSt_ne (t : Fin grid0.N) (s : Fin 4) (h : t.val % 8 = 0 → s ≠ sOf t ∨ t.val = 0) :
    rcvSt m c t.val s = rcvSt m c (t.val + 1) s := by
  unfold rcvSt
  by_cases h0 : s = 0
  · rw [if_pos h0, if_pos h0]
  · rw [if_neg h0, if_neg h0]
    have h0' : s.val ≠ 0 := fun e => h0 (Fin.ext e)
    have e : (8 * s.val < t.val) = (8 * s.val < t.val + 1) := by
      refine propext ⟨fun h1 => by omega, fun h1 => ?_⟩
      by_contra h2
      have h3 : t.val = 8 * s.val := by omega
      rcases h (by omega) with h4 | h4
      · exact h4 (Fin.ext (by show s.val = t.val / 8; omega))
      · omega
    simp only [e]

end Cert.KernelIdeal.Ring
-- ==== Proof.First.lean ====
/- One step's first part: the opening at the first step, the arrival of a block, and the product. -/
module

public import proofs.«01_k».proof.Proof.State

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-! ### Small families -/

theorem fin3 (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

theorem at_ne1 : ∀ c : Dev nD, at_ c 1 ∉ ({at_ c 2, at_ c 3} : Finset (Dev nD)) := by decide
theorem at_ne2 : ∀ c : Dev nD, at_ c 2 ∉ ({at_ c 3} : Finset (Dev nD)) := by decide

theorem three (Φ : Dev nD → sProp 𝕄) : bigSep (dut c none 0) Φ = iprop(Φ (at_ c 1) ∗ Φ (at_ c 2) ∗ Φ (at_ c 3)) := by
  rw [show dut c none 0 = {at_ c 1, at_ c 2, at_ c 3} from others c, bigSep_insert (at_ne1 c), bigSep_insert (at_ne2 c), bigSep_singleton]
  rfl

theorem pay_bar (d : Dev nD) : pay m c none 0 d
    = iprop((∃ f, rvP (F := F) d c f) ∗ reached ER (own d (kRcv c)) 0 ∗ reached ER (own d kEnd) 0) := rfl

/-- What the entry barrier brings: the places of the sends, and the others' exit barriers. -/
theorem got : bigSep (dut c none 0) (fun d => pay m c none 0 d)
    ⊢ iprop(((∃ f, rvP (F := F) (at_ c 1) c f) ∗ reached ER (own (at_ c 1) (kRcv c)) 0 ∗ reached ER (own (at_ c 1) kEnd) 0)
      ∗ ((∃ f, rvP (F := F) (at_ c 2) c f) ∗ reached ER (own (at_ c 2) (kRcv c)) 0 ∗ reached ER (own (at_ c 2) kEnd) 0)
      ∗ ((∃ f, rvP (F := F) (at_ c 3) c f) ∗ reached ER (own (at_ c 3) (kRcv c)) 0 ∗ reached ER (own (at_ c 3) kEnd) 0)) := by
  rw [three]
  exact BIBase.Entails.refl

theorem sent_in : iprop((∃ f, stP (F := F) c 0 f) ∗ (∃ f, stP (F := F) c 1 f) ∗ stgAt (F := F) c 0 2 ∗ stgAt (F := F) c 1 2
    ∗ xP c c (xIn m c) ∗ xP c (at_ c 1) (xIn m c) ∗ xP c (at_ c 2) (xIn m c) ∗ xP c (at_ c 3) (xIn m c)
    ∗ (∃ f, x8P (F := F) c c f)
    ∗ (cred (tallyAt (own c (kSnd 0)) () nX) ∗ cred (tallyAt (own c (kSnd 1)) () nX) ∗ cred (tallyAt (own c (kSnd 2)) () nX))
    ∗ (reached ER (own (at_ c 1) kEnd) 0 ∗ reached ER (own (at_ c 2) kEnd) 0 ∗ reached ER (own (at_ c 3) kEnd) 0)
    ∗ atPos ER (bar c) 1 ∅ 0) ⊢ sent m c := by
  unfold sent
  rw [fin3, fin3]
  exact BIBase.Entails.refl

/-! ### The opening -/

/-- A device's own tokens of a send. -/
def sndT (k : Fin 3) : sProp 𝕄 :=
  iprop(dutyTok ER (own c (kSnd k)) 0 c ∗ reached ER (own c (kSnd k)) 0 ∗ dutyTok ER (own (sndTo c k) (kRcv c)) 0 c)

/-- What only the opening uses. -/
def fresh : sProp 𝕄 :=
  iprop(give m c (at_ c 1) ∗ give m c (at_ c 2) ∗ give m c (at_ c 3) ∗ cred (tallyAt (bar c) () 3) ∗ atPos ER (bar c) 0 ∅ 0
    ∗ stgIn m c 0 0 ∗ stgIn m c 1 0 ∗ (∃ f, stP (F := F) c 0 f) ∗ (∃ f, stP (F := F) c 1 f) ∗ stgAt (F := F) c 0 0 ∗ stgAt (F := F) c 1 0
    ∗ (∃ f, x8P (F := F) c (at_ c 1) f) ∗ (∃ f, x8P (F := F) c c f) ∗ (∃ f, x8P (F := F) c (at_ c 3) f) ∗ (∃ f, x8P (F := F) c (at_ c 2) f)
    ∗ (∃ f, rvP (F := F) c c f) ∗ xP c (at_ c 3) (xIn m c) ∗ xP c (at_ c 2) (xIn m c)
    ∗ dutyTok ER (own c (kStg 0)) 1 c ∗ dutyTok ER (own c (kStg 1)) 1 c
    ∗ sndT (F := F) c 0 ∗ sndT (F := F) c 1 ∗ sndT (F := F) c 2)

/-- What the opening leaves as it is. -/
def idle : sProp 𝕄 :=
  iprop(tabP (F := F) c ∗ keep (F := F) c
    ∗ (∃ X, owns (c : Thread nD τ) bW8 fullShare (X : S1024x1024.Idx → Elt F .fp8e5m2))
    ∗ (∃ X, owns (c : Thread nD τ) bXc fullShare (X : S1024x1024.Idx → Elt F .fp8e5m2))
    ∗ atPos ER (own c (kRcv c)) 0 ∅ 0 ∗ bigSep (Finset.univ.erase 0) (rcvSt m c 0)
    ∗ bigSep Finset.univ (fun j => colSt m c j (cnt 0 j)))

/-- Before the first step. -/
def first : sProp 𝕄 := iprop(recs m K ∗ levAts L lv ∗ ow c (O₀ c) ∗ fresh m c ∗ idle m c)

/-- The blocks held by the windows. -/
def win (t : Fin grid0.N) (a4 : Memref sig .tc .vmem S1024x1024 .f32)
    (a5 : Memref sig .tc .smem S1 .f32) (a6 : Memref sig .tc .smem S1 .f32) : sProp 𝕄 :=
  iprop(owns (c : Thread nD τ) a4 fullShare (wv m c t) ∗ owns (c : Thread nD τ) a5 fullShare (s1v m c t)
    ∗ owns (c : Thread nD τ) a6 fullShare (s2v m c t))

theorem first_mid :
    iprop(recs m K ∗ levAts L lv ∗ ow c (oEnd c) ∗ idle m c ∗ sent m c ∗ rvP c c (recvAll m c)) ⊢ mid m K c 0 := by
  unfold mid base idle
  rw [take (Finset.mem_univ (0 : Fin 4)) (rcvSt m c 0), show rcvSt m c 0 0 = iprop(rvP c (at_ c (sig_ 0)) (recvAll m c)
    ∗ atPos ER (own c (kRcv (at_ c (sig_ 0)))) 0 ∅ 0) from if_pos rfl, show at_ c (sig_ 0) = c from at_zero c]
  iintro ⟨HI, Hl, HO, ⟨Ht, Hk, Hw, ⟨%X, Hx⟩, Ha, Hr, Hc⟩, Hs, Hv⟩
  isplitl [HI Hl HO Ht Hk Hs]
  · isplitl [HI]; · iexact HI
    isplitl [Hl]; · iexact Hl
    isplitl [Ht]; · iexact Ht
    isplitl [HO]; · iexact HO
    isplitl [Hk]; · iexact Hk
    iexact Hs
  isplitl [Hw]; · iexact Hw
  isplitl [Hx]
  · iexists X
    isplitr; · ipureintro; intro s h; exact absurd rfl h
    iexact Hx
  isplitl [Hv Ha Hr]
  · isplitl [Hv Ha]
    · isplitl [Hv]; · iexact Hv
      iexact Ha
    iexact Hr
  iexact Hc

/-- The first word of the table. -/
theorem ld_tab0 {off : Fin 1 → Nat} (h : off = ![0]) (inb : ∀ a, off a + S1.size a ≤ S4.size a) {h1 hp} (Kt : BitVec 32 → sProp 𝕄) :
    tabP (F := F) c ⊢ iprop((tabP (F := F) c -∗ Kt (w_ c)) -∗ WP c (smemLoad bTab (Rect.unit (s := S4) off S1.size inb) h1 hp) Kt) := by
  have := ld_tab (F := F) c 0 h inb (h1 := h1) (hp := hp) Kt
  rwa [show at_ c (sig_ 0) = c from at_zero c] at this

/-- A word of the table. -/
theorem ld_tabP (k : Fin 4) {off : Fin 1 → Nat} (h : off = ![k.val]) (inb : ∀ a, off a + S1.size a ≤ S4.size a) {h1 hp} (Kt : BitVec 32 → sProp 𝕄) :
    tabP (F := F) c ⊢ iprop((tabP (F := F) c -∗ Kt (w_ (at_ c (sig_ k)))) -∗ WP c (smemLoad bTab (Rect.unit (s := S4) off S1.size inb) h1 hp) Kt) :=
  ld_tab (F := F) c k h inb (h1 := h1) (hp := hp) Kt

variable (t : Fin grid0.N) (a4 : Memref sig .tc .vmem S1024x1024 .f32) (h4 : a4.IsWhole)
  (a5 : Memref sig .tc .smem S1 .f32) (h5 : a5.IsWhole) (a6 : Memref sig .tc .smem S1 .f32) (h6 : a6.IsWhole)

/-- The device's state before step `t`. -/
def before (t : ℕ) : sProp 𝕄 := if t = 0 then first m K c else mid m K c t

theorem before_first {t : ℕ} (h : t = 0) : before m K c t ⊢ first m K c := BIBase.Entails.of_eq (if_pos h)
theorem before_mid {t : ℕ} (h : t ≠ 0) : before m K c t ⊢ mid m K c t := BIBase.Entails.of_eq (if_neg h)

theorem mid_zero {t : ℕ} (h : t = 0) : mid m K c 0 ⊢ mid m K c t := by subst h; exact BIBase.Entails.refl

/-- How many blocks the step's panel has after the first part. -/
def half (t : ℕ) : ℕ := if t / 8 = 0 then 1 else t / 8

theorem rcvSt_in (h : t.val % 8 = 0) : rcvSt m c (t.val + 1) (sOf t) = iprop(rvP c (at_ c (sig_ (sOf t))) (recvAll m c)
    ∗ atPos ER (own c (kRcv (at_ c (sig_ (sOf t))))) (if sOf t = 0 then 0 else 1) ∅ 0) := by
  unfold rcvSt
  by_cases h0 : sOf t = 0
  · rw [if_pos h0, if_pos h0]
  · rw [if_neg h0, if_neg h0, if_pos (by show 8 * (t.val / 8) < t.val + 1; omega)]

theorem rcvSt_out (h : t.val % 8 = 0) (h0 : t.val ≠ 0) : rcvSt m c t.val (sOf t)
    = iprop(cred (tallyAt (own c (kRcv (at_ c (sig_ (sOf t))))) () nX) ∗ atPos ER (own c (kRcv (at_ c (sig_ (sOf t))))) 0 ∅ 0) := by
  unfold rcvSt
  have h1 : ¬ sOf t = 0 := fun e => by
    have : t.val / 8 = 0 := congrArg Fin.val e
    omega
  rw [if_neg h1, if_neg (by show ¬ 8 * (t.val / 8) < t.val; omega)]

theorem sOf_ne (h : t.val % 8 = 0) (h0 : t.val ≠ 0) : ¬ sOf t = 0 := fun e => by
  have : t.val / 8 = 0 := congrArg Fin.val e
  omega

theorem rcvSt_eq (h : ¬ (t.val % 8 = 0 ∧ t.val ≠ 0)) : rcvSt m c t.val = rcvSt m c (t.val + 1) := by
  funext s
  exact rcvSt_ne m c t s fun h8 => Or.inr (by by_contra h0; exact h ⟨h8, h0⟩)

theorem rcvSt_rest : bigSep (Finset.univ.erase (sOf t)) (rcvSt m c t.val) = bigSep (Finset.univ.erase (sOf t)) (rcvSt m c (t.val + 1)) :=
  bigSep_congr fun s hs => rcvSt_ne m c t s fun _ => Or.inl (Finset.ne_of_mem_erase hs)

theorem zero2 : (![0, 0] : Fin 2 → Nat) = fun _ => 0 := by decide

theorem acSt_none (j : Fin 8) {n : ℕ} (h : n = 0) : acSt m c j n ⊢ iprop(∃ f, acP (F := F) c j f) := by subst h; exact BIBase.Entails.refl

theorem acc_first (h : t.val / 8 = 0) : accv m c (sOf t) (jOf t) = k0_pay10 (xc m c (sOf t)) (k0_pay8 (wv m c t)) := by
  have e : sOf t = 0 := Fin.ext h
  have e2 := stp_of t
  rw [e] at e2 ⊢
  exact (accv.eq_1 m c (jOf t)).trans (congrArg (fun z => k0_pay10 (xc m c 0) (k0_pay8 (wv m c z))) e2)

theorem at_sig_ne : ∀ (c : Dev nD) (s : Fin 4), s ≠ 0 → at_ c (sig_ s) ≠ c := by decide

theorem dut_rcv (h : t.val % 8 = 0) (h0 : t.val ≠ 0) : dut c (some (kRcv (at_ c (sig_ (sOf t))))) 0 = {at_ c (sig_ (sOf t))} :=
  if_pos ⟨rfl, at_sig_ne c (sOf t) (sOf_ne t h h0)⟩

set_option maxHeartbeats 1600000 in
/-- The step's first part. -/
theorem part10 (Kt : _ → sProp 𝕄)
    (hk : iprop(mid3 m K c t (half t.val) ∗ win m c t a4 a5 a6) ⊢ Kt ⟨BitVec.ofNat 32 (grid0.coords t 0).val, BitVec.ofNat 32 (grid0.coords t 1).val,
      w_ c, chk1_all t c, part m c (sOf t) (jOf t), Scalar.muli (BitVec.ofNat 32 (grid0.coords t 1).val) 1024#32, 0#32⟩) :
    iprop(before m K c t.val ∗ win m c t a4 a5 a6) ⊢ WP c (k0_part10 (F := F) (grid0.coords t) bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0) Kt := by
  rw [k0_part10_eq_skeleton]
  unfold k0_part10_skel
  dsimp -proj -zeta -zetaUnused only
  have hb : before m K c t.val ⊢ iprop(tabP (F := F) c ∗ (tabP (F := F) c -∗ before m K c t.val)) := by
    unfold before
    split
    · unfold first idle
      iintro ⟨H1, H2, H3, H4, H5, H6⟩
      isplitl [H5]; · iexact H5
      iintro H5
      isplitl [H1]; · iexact H1
      isplitl [H2]; · iexact H2
      isplitl [H3]; · iexact H3
      isplitl [H4]; · iexact H4
      isplitl [H5]; · iexact H5
      iexact H6
    · unfold mid base
      iintro ⟨⟨H1, H2, H3, H4⟩, H5⟩
      isplitl [H3]; · iexact H3
      iintro H3
      isplitr [H5]
      · isplitl [H1]; · iexact H1
        isplitl [H2]; · iexact H2
        isplitl [H3]; · iexact H3
        iexact H4
      iexact H5
  iintro ⟨Hb, Hw⟩
  ihave Hb := hb $$ Hb
  icases Hb with ⟨Ht, Hb⟩
  iapply st_bind
  iapply (ld_tab0 c rfl _) $$ Ht
  iintro Ht
  iapply st_bind
  iapply (st_assume (chk1_all t c) _ c)
  iapply st_bind
  iapply (ld_tabP c (sOf t) (off1_eq t) _) $$ Ht
  iintro Ht
  iapply st_bind
  iapply (st_assume (chk2_all t (at_ c (sig_ (sOf t)))) _ c)
  ihave Hb := Hb $$ Ht
  extract_lets v25 v25x jC jB v88 v89 jA v271 v272
  have hC : iprop(mid2 m K c t ∗ win m c t a4 a5 a6) ⊢ WP c (jC ()) Kt := by
    dsimp -proj -zeta -zetaUnused only [jC]
    refine BIBase.Entails.trans (BIClass.sep_mono (mid2_mid3 m K c t) BIBase.Entails.refl) ?_
    unfold mid3 win
    iintro ⟨⟨Hb, ⟨%X, Hw⟩, Hx, Hr, Hc, Ha, Ho⟩, Hw4, Hw5, Hw6⟩
    iapply st_bind
    iapply (ld_owns c a4 zero2 _ _) $$ Hw4
    iintro Hw4
    iapply st_bind
    iapply (ld_owns c bW8 zero2 _ _) $$ Hw
    iintro Hw
    iapply st_bind
    iapply (sto_owns c bW8 zero2 _ _) $$ [Hw]
    · iexists _; iexact Hw
    iintro Hw
    iapply st_bind
    iapply (ld_owns c bXc zero2 _ _) $$ Hx
    iintro Hx
    iapply st_bind
    iapply (ld_owns c bW8 zero2 _ _) $$ Hw
    iintro Hw
    extract_lets jD
    have ep : k0_pay9 (xc m c (sOf t)) (k0_pay8 (wv m c t)) = part m c (sOf t) (jOf t) := by
      unfold part; rw [stp_of]
    have hD : iprop(mid3 m K c t (half t.val) ∗ win m c t a4 a5 a6) ⊢ WP c (jD ()) Kt := by
      dsimp -proj -zeta -zetaUnused only [jD]
      rw [ep]
      exact BIBase.Entails.trans hk (st_pure c _ Kt)
    unfold mid3 win at hD
    by_cases h4 : k0_cond4 (grid0.coords t) = 1#1
    · have h0 := (cond4_iff t).1 h4
      have s0 : (sOf t).val = 0 := h0
      have e1 : half t.val = (sOf t).val + 1 := by unfold half; rw [if_pos h0, s0]
      iapply (st_pos h4 c)
      rw [e1, acSt_succ] at hD
      ihave Ha := (acSt_none m c (jOf t) s0) $$ Ha
      icases Ha with ⟨%f, Ha⟩
      iapply st_bind
      iapply (lda_ac c _ (off11_eq t) (j := jOf t) f) $$ Ha
      iintro %v Ha
      iapply st_bind
      iapply (sto_ac c _ (off11_eq t) (j := jOf t) (accv m c (sOf t)) (acc_first m c t h0) f) $$ Ha
      iintro Ha
      iapply hD
      isplitr [Hw4 Hw5 Hw6]
      · isplitl [Hb]; · iexact Hb
        isplitl [Hw]; · iexists _; iexact Hw
        isplitl [Hx]; · iexact Hx
        isplitl [Hr]; · iexact Hr
        isplitl [Hc]; · iexact Hc
        isplitl [Ha]; · iexact Ha
        iexact Ho
      isplitl [Hw4]; · iexact Hw4
      isplitl [Hw5]; · iexact Hw5
      iexact Hw6
    · have h0 := fun h => h4 ((cond4_iff t).2 h)
      have e1 : half t.val = (sOf t).val := if_neg h0
      iapply (st_neg h4 c)
      rw [e1] at hD
      iapply hD
      isplitr [Hw4 Hw5 Hw6]
      · isplitl [Hb]; · iexact Hb
        isplitl [Hw]; · iexists _; iexact Hw
        isplitl [Hx]; · iexact Hx
        isplitl [Hr]; · iexact Hr
        isplitl [Hc]; · iexact Hc
        isplitl [Ha]; · iexact Ha
        iexact Ho
      isplitl [Hw4]; · iexact Hw4
      isplitl [Hw5]; · iexact Hw5
      iexact Hw6
  have hB : iprop(mid1 m K c t.val ∗ win m c t a4 a5 a6) ⊢ WP c (jB ()) Kt := by
    clear_value jC
    dsimp -proj -zeta -zetaUnused only [jB]
    unfold mid2 at hC
    unfold mid1
    by_cases h3 : k0_cond3 (grid0.coords t) = 1#1
    · have h0 := (cond3_iff t).1 h3
      rw [take (Finset.mem_univ (sOf t)) (rcvSt m c (t.val + 1)), rcvSt_in m c t h0] at hC ⊢
      iintro ⟨⟨Hb, Hw, ⟨%X, -, Hx⟩, ⟨⟨Hv, Ha⟩, Hr⟩, Hc⟩, Hwin⟩
      iapply (st_pos h3 c)
      unfold recvAll
      iapply st_bind
      iapply (ld_rv c _ (off10_eq (at_ c (sig_ (sOf t)))) (fun d => x8 m d c)) $$ Hv
      iintro Hv
      iapply st_bind
      iapply (ld_owns c bXc zero2 _ _) $$ Hx
      iintro Hx
      iapply st_bind
      iapply (sto_owns c bXc zero2 _ _) $$ [Hx]
      · iexists _; iexact Hx
      iintro Hx
      iapply hC
      isplitr [Hwin]
      · isplitl [Hb]; · iexact Hb
        isplitl [Hw]; · iexact Hw
        isplitl [Hx]; · iexact Hx
        isplitr [Hc]
        · isplitr [Hr]
          · isplitl [Hv]; · iexact Hv
            iexact Ha
          iexact Hr
        iexact Hc
      iexact Hwin
    · have h0 := fun h => h3 ((cond3_iff t).2 h)
      iintro ⟨⟨Hb, Hw, ⟨%X, %hX, Hx⟩, Hr, Hc⟩, Hwin⟩
      have hX' := hX (sOf t) h0 rfl
      subst hX'
      iapply (st_neg h3 c)
      iapply hC
      isplitr [Hwin]
      · isplitl [Hb]; · iexact Hb
        isplitl [Hw]; · iexact Hw
        isplitl [Hx]; · iexact Hx
        isplitl [Hr]; · iexact Hr
        iexact Hc
      iexact Hwin
  have hA : iprop(mid m K c t.val ∗ win m c t a4 a5 a6) ⊢ WP c (jA ()) Kt := by
    clear_value jC jB
    dsimp -proj -zeta -zetaUnused only [jA]
    unfold mid1 at hB
    unfold mid
    by_cases h2 : k0_cond2 (grid0.coords t) = 1#1
    · obtain ⟨h0, h1⟩ := (cond2_iff t).1 h2
      rw [take (Finset.mem_univ (sOf t)) (rcvSt m c (t.val + 1)), rcvSt_in m c t h0, if_neg (sOf_ne t h0 h1)] at hB
      rw [take (Finset.mem_univ (sOf t)) (rcvSt m c t.val), rcvSt_out m c t h0 h1, rcvSt_rest]
      unfold base at hB ⊢
      iintro ⟨⟨⟨#HI, #Hl, Hb1, HO, Hb2⟩, Hw, Hx, ⟨⟨Hcr, Ha⟩, Hr⟩, Hc⟩, Hwin⟩
      iapply (st_pos h2 c)
      extract_lets v84 v85 v86 v87
      iapply st_bind
      iapply (st_waitDma m K c (some (kRcv (at_ c (sig_ (sOf t))))) 0 (at_ c (sig_ (sOf t))) (dut_rcv c t h0 h1)
        (rcv_sem (at_ c (sig_ (sOf t))) (off8_eq _) _) ((rvM_credit _).trans nX_eq) (n := 2) (Nat.le_refl 2) (above_oEnd c)) $$ [HO Hcr Ha]
      · isplitr; · iexact HI
        isplitr; · iexact Hl
        isplitl [HO]; · iexact HO
        isplitl [Hcr]; · iexact Hcr
        iexact Ha
      rw [pay_rcv]
      iintro ⟨HO, Ha, -, Hv⟩
      iapply hB
      isplitr [Hwin]
      · isplitl [HO Hb1 Hb2]
        · isplitr; · iexact HI
          isplitr; · iexact Hl
          isplitl [Hb1]; · iexact Hb1
          isplitl [HO]; · iexact HO
          iexact Hb2
        isplitl [Hw]; · iexact Hw
        isplitl [Hx]; · iexact Hx
        isplitr [Hc]
        · isplitr [Hr]
          · isplitl [Hv]; · iexact Hv
            iexact Ha
          iexact Hr
        iexact Hc
      iexact Hwin
    · rw [rcvSt_eq m c t (fun h => h2 ((cond2_iff t).2 h))]
      iintro H
      iapply (st_neg h2 c)
      iapply hB
      iexact H
  clear_value jC jB jA
  by_cases h1 : k0_cond1 (grid0.coords t) = 1#1
  · ihave Hb := (before_first m K c ((cond1_iff t).1 h1)) $$ Hb
    have ht : t.val = 0 := (cond1_iff t).1 h1
    iapply (st_pos h1 c)
    unfold first fresh sndT
    icases Hb with ⟨#HI, #Hl, HO, ⟨Hg1, Hg2, Hg3, Hcb, Hab, Hi0, Hi1, Hs0, Hs1, Ht0, Ht1, Hy1, Hy0, Hy3, Hy2, Hrv, Hx3, Hx2, Hd0, Hd1,
      ⟨Hp0, Hq0, Hz0⟩, ⟨Hp1, Hq1, Hz1⟩, ⟨Hp2, Hq2, Hz2⟩⟩, Hidle⟩
    iapply st_bind
    iapply (part1 m K c (grid0.coords t) a4 h4 a5 h5 a6 h6 _ h1) $$ [HO Hg1 Hg2]
    · isplitr; · iexact HI
      isplitl [HO]; · iexact HO
      isplitl [Hg1]; · iexact Hg1
      iexact Hg2
    iintro %x1 %x2 %x3 %x4 HO
    iapply st_bind
    iapply (part2 m K c (grid0.coords t) a4 h4 a5 h5 a6 h6 _ h1) $$ [HO Hg3 Hcb Hab]
    · isplitr; · iexact HI
      isplitr; · iexact Hl
      isplitl [HO]; · iexact HO
      isplitl [Hg3]; · iexact Hg3
      isplitl [Hcb]; · iexact Hcb
      iexact Hab
    iintro %y ⟨HO, Hab, Hgot⟩
    ihave Hgot := (got m c) $$ Hgot
    icases Hgot with ⟨⟨Hv1, #Hr1, #He1⟩, ⟨Hv2, #Hr2, #He2⟩, ⟨Hv3, #Hr3, #He3⟩⟩
    iapply st_bind
    iapply (part3 m K c (grid0.coords t) a4 h4 a5 h5 a6 h6 _ h1) $$ [Hi0 Hi1 Hs0 Hs1]
    · isplitr; · iexact HI
      isplitl [Hi0]; · iexact Hi0
      isplitl [Hi1]; · iexact Hi1
      isplitl [Hs0]; · iexact Hs0
      iexact Hs1
    iintro %z ⟨Hc0, Hc1⟩
    iapply st_bind
    iapply (part4 m K c (grid0.coords t) a4 h4 a5 h5 a6 h6 _ h1) $$ [HO Hc0 Ht0 Hy1 Hv1 Hp0 Hq0 Hz0 Hx3 Hd0]
    · isplitr; · iexact HI
      isplitr; · iexact Hl
      isplitl [HO]; · iexact HO
      isplitl [Hc0]; · iexact Hc0
      isplitl [Ht0]; · iexact Ht0
      isplitl [Hy1]; · iexact Hy1
      isplitl [Hv1 Hp0 Hq0 Hz0]
      · unfold sndIn
        isplitl [Hv1]; · iexact Hv1
        isplitl [Hp0]; · iexact Hp0
        isplitl [Hq0]; · iexact Hq0
        isplitl [Hz0]; · iexact Hz0
        iexact Hr1
      isplitl [Hx3]; · iexact Hx3
      iexact Hd0
    iintro ⟨HO, Hc0, Ht0, Hcs0, Hx1⟩
    iapply st_bind
    iapply (part5 m K c (grid0.coords t) a4 h4 a5 h5 a6 h6 _ h1) $$ [HO Hc1 Ht1 Hc0 Ht0 Hy0 Hrv Hx2 Hd1]
    · isplitr; · iexact HI
      isplitr; · iexact Hl
      isplitl [HO]; · iexact HO
      isplitl [Hc1]; · iexact Hc1
      isplitl [Ht1]; · iexact Ht1
      isplitl [Hc0]; · iexact Hc0
      isplitl [Ht0]; · iexact Ht0
      isplitl [Hy0]; · iexact Hy0
      isplitl [Hrv]; · iexact Hrv
      isplitl [Hx2]; · iexact Hx2
      iexact Hd1
    iintro ⟨HO, Hc1, Ht1, Ht0, Hs0, Hy0, Hrv, Hx0, Hx3⟩
    iapply st_bind
    iapply (part6 m K c (grid0.coords t) a4 h4 a5 h5 a6 h6 _ h1) $$ [HO Hc1 Ht1 Hy3 Hy2 Hv3 Hp2 Hq2 Hz2]
    · isplitr; · iexact HI
      isplitr; · iexact Hl
      isplitl [HO]; · iexact HO
      isplitl [Hc1]; · iexact Hc1
      isplitl [Ht1]; · iexact Ht1
      isplitl [Hy3]; · iexact Hy3
      isplitl [Hy2]; · iexact Hy2
      unfold sndIn
      isplitl [Hv3]; · iexact Hv3
      isplitl [Hp2]; · iexact Hp2
      isplitl [Hq2]; · iexact Hq2
      isplitl [Hz2]; · iexact Hz2
      iexact Hr3
    iintro ⟨HO, Ht1, Hs1, Hcs2, Hy2, Hx2⟩
    iapply st_bind
    iapply (st_send m K c _ 1 _ (off6_eq c 2) (off5_eq c) (snd_sem 1 rfl _) (rcv_sem c (off4_eq c) _) (Fin.ext (dev6_eq c))
      (oEnd c) rfl) $$ [Hy2 Hv2 HO Hp1 Hq1 Hz1]
    · isplitr; · iexact HI
      isplitl [Hy2]; · iexact Hy2
      isplitl [Hv2]; · iexact Hv2
      isplitl [HO]; · iexact HO
      isplitl [Hp1]; · iexact Hp1
      isplitl [Hq1]; · iexact Hq1
      isplitl [Hz1]; · iexact Hz1
      iexact Hr2
    iintro ⟨Hcs1, HO⟩
    ihave Hmid := (first_mid m K c) $$ [HO Hidle Ht0 Ht1 Hs0 Hs1 Hx0 Hx1 Hx2 Hx3 Hy0 Hcs0 Hcs1 Hcs2 Hab Hrv]
    · isplitr; · iexact HI
      isplitr; · iexact Hl
      isplitl [HO]; · iexact HO
      isplitl [Hidle]; · iexact Hidle
      isplitr [Hrv]
      · iapply (sent_in m c)
        isplitl [Hs0]; · iexact Hs0
        isplitl [Hs1]; · iexact Hs1
        isplitl [Ht0]; · iexact Ht0
        isplitl [Ht1]; · iexact Ht1
        isplitl [Hx0]; · iexact Hx0
        isplitl [Hx1]; · iexact Hx1
        isplitl [Hx2]; · iexact Hx2
        isplitl [Hx3]; · iexact Hx3
        isplitl [Hy0]; · iexact Hy0
        isplitl [Hcs0 Hcs1 Hcs2]
        · isplitl [Hcs0]; · iexact Hcs0
          isplitl [Hcs1]; · iexact Hcs1
          iexact Hcs2
        isplitr [Hab]
        · isplitr; · iexact He1
          isplitr; · iexact He2
          iexact He3
        iexact Hab
      iexact Hrv
    ihave Hmid := (mid_zero m K c ht) $$ Hmid
    iapply hA
    isplitl [Hmid]; · iexact Hmid
    iexact Hw
  · ihave Hb := (before_mid m K c (fun h => h1 ((cond1_iff t).2 h))) $$ Hb
    iapply (st_neg h1 c)
    iapply hA
    isplitl [Hb]; · iexact Hb
    iexact Hw

end Cert.KernelIdeal.Ring
-- ==== Proof.Second.lean ====
/- One step's second part: the sum, the scaling, and the panels' copies out. -/
module

public import proofs.«01_k».proof.Proof.First

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

variable (t : Fin grid0.N) (a4 : Memref sig .tc .vmem S1024x1024 .f32) (h4 : a4.IsWhole)
  (a5 : Memref sig .tc .smem S1 .f32) (h5 : a5.IsWhole) (a6 : Memref sig .tc .smem S1 .f32) (h6 : a6.IsWhole)

theorem acSt_pos (j : Fin 8) (p : Fin 4) {n : ℕ} (h : n = p.val + 1) : acSt m c j n ⊢ acP c j (colBuf (accv m c p)) := by
  subst h; exact BIBase.Entails.of_eq (acSt_succ m c j p)
theorem acSt_back (j : Fin 8) (s : Fin 4) {n : ℕ} (h : n = s.val + 1) : acP c j (colBuf (accv m c s)) ⊢ acSt m c j n := by
  subst h; exact BIBase.Entails.of_eq (acSt_succ m c j s).symm

/-- The block before a middle one. -/
theorem acc_mid (h : t.val / 8 = 1 ∨ t.val / 8 = 2) : ∃ p : Fin 4, t.val / 8 = p.val + 1
    ∧ accv m c (sOf t) (jOf t) = k0_pay11 (part m c (sOf t) (jOf t)) (accv m c p (jOf t)) := by
  rcases h with h | h
  · have e : sOf t = 1 := Fin.ext h
    exact ⟨0, h, by rw [e]; exact accv.eq_2 m c (jOf t)⟩
  · have e : sOf t = 2 := Fin.ext h
    exact ⟨1, h, by rw [e]; exact accv.eq_3 m c (jOf t)⟩
/-- The last. -/
theorem acc_last (h : t.val / 8 = 3) :
    accv m c (sOf t) (jOf t) = k0_pay12 (part m c (sOf t) (jOf t)) (accv m c 2 (jOf t)) (s1v m c t one_) (s2v m c t one_) := by
  have e : sOf t = 3 := Fin.ext h
  have e2 := stp_of t
  rw [e] at e2 ⊢
  refine (accv.eq_4 m c (jOf t)).trans ?_
  rw [e2]

/-- A state of the step's panel put back. -/
theorem mid3_win (n : ℕ) :
    iprop((base m K c ∗ (∃ X, owns (c : Thread nD τ) bW8 fullShare (X : S1024x1024.Idx → Elt F .fp8e5m2))
      ∗ owns (c : Thread nD τ) bXc fullShare (xc m c (sOf t))
      ∗ bigSep Finset.univ (rcvSt m c (t.val + 1)) ∗ bigSep (Finset.univ.erase (jOf t)) (fun j => colSt m c j (cnt (t.val + 1) j)))
      ∗ acSt m c (jOf t) n ∗ outIn (F := F) c (jOf t) ∗ win m c t a4 a5 a6) ⊢ iprop(mid3 m K c t n ∗ win m c t a4 a5 a6) := by
  unfold mid3
  iintro ⟨⟨Hb, Hw, Hx, Hr, Hc⟩, Ha, Ho, Hwin⟩
  isplitr [Hwin]
  · isplitl [Hb]; · iexact Hb
    isplitl [Hw]; · iexact Hw
    isplitl [Hx]; · iexact Hx
    isplitl [Hr]; · iexact Hr
    isplitl [Hc]; · iexact Hc
    isplitl [Ha]; · iexact Ha
    iexact Ho
  iexact Hwin
theorem win_mid3 (n : ℕ) : iprop(mid3 m K c t n ∗ win m c t a4 a5 a6) ⊢
    iprop((base m K c ∗ (∃ X, owns (c : Thread nD τ) bW8 fullShare (X : S1024x1024.Idx → Elt F .fp8e5m2))
      ∗ owns (c : Thread nD τ) bXc fullShare (xc m c (sOf t))
      ∗ bigSep Finset.univ (rcvSt m c (t.val + 1)) ∗ bigSep (Finset.univ.erase (jOf t)) (fun j => colSt m c j (cnt (t.val + 1) j)))
      ∗ acSt m c (jOf t) n ∗ outIn (F := F) c (jOf t) ∗ win m c t a4 a5 a6) := by
  unfold mid3
  iintro ⟨⟨Hb, Hw, Hx, Hr, Hc, Ha, Ho⟩, Hwin⟩
  isplitr [Ha Ho Hwin]
  · isplitl [Hb]; · iexact Hb
    isplitl [Hw]; · iexact Hw
    isplitl [Hx]; · iexact Hx
    isplitl [Hr]; · iexact Hr
    iexact Hc
  isplitl [Ha]; · iexact Ha
  isplitl [Ho]; · iexact Ho
  iexact Hwin

theorem mid4_same {j j' : ℕ} (h : ¬ (t.val / 8 = 3 ∧ t.val % 8 < j)) (h' : ¬ (t.val / 8 = 3 ∧ t.val % 8 < j') ) : mid4 m K c t j ⊢ mid4 m K c t j' := by
  unfold mid4
  rw [if_neg h, if_neg h']
theorem mid4_same' {j j' : ℕ} (h : t.val / 8 = 3 ∧ t.val % 8 < j) (h' : t.val / 8 = 3 ∧ t.val % 8 < j') : mid4 m K c t j ⊢ mid4 m K c t j' := by
  unfold mid4
  rw [if_pos h, if_pos h']

/-- The copy of panel `j`, started at the last block's step for it. -/
theorem out_if {α : Type} (j : Fin 8) {C : Prop} [Decidable C] (hC : C ↔ t.val = 24 + j.val) {Kt : α → sProp 𝕄} {Q : sProp 𝕄}
    {J : Prog (TpuEff nD τ sig (Elt F) Λ₀ .tc) α} (hJ : iprop(mid4 m K c t (j.val + 1) ∗ Q) ⊢ WP c J Kt)
    {off3 off4 : Fin 2 → Nat} (inb3 : ∀ a, off3 a + S1024x1024.size a ≤ S1024x8192.size a) (inb4 : ∀ a, off4 a + S1024x1024.size a ≤ S1024x8192.size a)
    (ha : off3 = ![0, 1024 * j.val]) (ho : off4 = ![0, 1024 * j.val]) {s : DmaSem sig} (hs : SemLoc.dma s = osem (kOut j)) {h1 h2 h3} :
    iprop(mid4 m K c t j.val ∗ Q) ⊢ WP c (if C then (Prog.lift (.enqueueDma (acM inb3) (.here (ouM inb4)) (.dma s) h1 h2 h3) >>= fun _ => J) else J) Kt := by
  have ht : t.val < 32 := by have := t.isLt; have := N_0; omega
  by_cases h : C
  · have e := hC.1 h
    have hj : jOf t = j := Fin.ext (by show t.val % 8 = j.val; omega)
    have hs3 : sOf t = 3 := Fin.ext (by show t.val / 8 = 3; omega)
    rw [if_pos h]
    unfold mid4 at hJ ⊢
    rw [if_pos ⟨by omega, by omega⟩, hj] at hJ
    rw [if_neg (by omega), hj, show t.val / 8 + 1 = (3 : Fin 4).val + 1 from congrArg (· + 1) (congrArg Fin.val hs3), acSt_succ]
    unfold base outIn
    unfold base at hJ
    iintro ⟨⟨⟨#HI, Hb⟩, Hw, Hx, Hr, Hc, Ha, Ho, Ht, Hq⟩, Hwin⟩
    iapply st_bind
    iapply (st_out m K c inb3 j inb4 ha ho hs) $$ [Ha Ho Ht Hq]
    · isplitr; · iexact HI
      isplitl [Ha]; · iexact Ha
      isplitl [Ho]; · iexact Ho
      isplitl [Ht]; · iexact Ht
      iexact Hq
    iintro Hcr
    iapply hJ
    isplitr [Hwin]
    · isplitl [Hb]
      · isplitr; · iexact HI
        iexact Hb
      isplitl [Hw]; · iexact Hw
      isplitl [Hx]; · iexact Hx
      isplitl [Hr]; · iexact Hr
      isplitl [Hc]; · iexact Hc
      iexact Hcr
    iexact Hwin
  · have e : ¬ t.val = 24 + j.val := fun h' => h (hC.2 h')
    rw [if_neg h]
    refine BIBase.Entails.trans (BIClass.sep_mono ?_ BIBase.Entails.refl) hJ
    by_cases h3 : t.val / 8 = 3 ∧ t.val % 8 < j.val
    · exact mid4_same' m K c t h3 ⟨h3.1, by omega⟩
    · exact mid4_same m K c t h3 (by omega)

set_option maxHeartbeats 1600000 in
/-- The step's second part. -/
theorem part11 (x25 x17 : BitVec 32) (Kt : _ → sProp 𝕄)
    (hk : iprop(mid4 m K c t 5 ∗ win m c t a4 a5 a6) ⊢ Kt 3#32) :
    iprop(mid3 m K c t (half t.val) ∗ win m c t a4 a5 a6) ⊢ WP c (k0_part11 (F := F) (grid0.coords t) bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0
      (BitVec.ofNat 32 (grid0.coords t 0).val) (BitVec.ofNat 32 (grid0.coords t 1).val) (part m c (sOf t) (jOf t)) x25 x17) Kt := by
  rw [k0_part11_eq_skeleton]
  unfold k0_part11_skel
  extract_lets -underBinder jA
  have hA : iprop(mid3 m K c t (if t.val / 8 = 3 then 3 else t.val / 8 + 1) ∗ win m c t a4 a5 a6) ⊢ WP c (jA ()) Kt := by
    unfold jA
    beta_reduce
    extract_lets -underBinder j0
    have h0 : iprop(mid4 m K c t 0 ∗ win m c t a4 a5 a6) ⊢ WP c (j0 ()) Kt := by
      unfold j0
      beta_reduce
      extract_lets -underBinder _ _ _ _ _ j1
      refine out_if m K c t 0 (out_iff 0 t) (J := j1 ()) ?_ _ _ rfl rfl (out_sem 0 rfl _)
      unfold j1
      beta_reduce
      extract_lets -underBinder _ _ _ _ j2
      refine out_if m K c t 1 (out_iff 1 t) (J := j2 ()) ?_ _ _ rfl rfl (out_sem 1 rfl _)
      unfold j2
      beta_reduce
      extract_lets -underBinder _ _ _ _ j3
      refine out_if m K c t 2 (out_iff 2 t) (J := j3 ()) ?_ _ _ rfl rfl (out_sem 2 rfl _)
      unfold j3
      beta_reduce
      extract_lets -underBinder _ _ _ _ j4
      refine out_if m K c t 3 (out_iff 3 t) (J := j4 ()) ?_ _ _ rfl rfl (out_sem 3 rfl _)
      unfold j4
      beta_reduce
      extract_lets -underBinder _ _ _ _ j5
      refine out_if m K c t 4 (out_iff 4 t) (J := j5 ()) ?_ _ _ rfl rfl (out_sem 4 rfl _)
      exact BIBase.Entails.trans hk (st_pure c _ Kt)
    replace h0 := BIBase.Entails.trans (BIClass.sep_mono (mid3_mid4 m K c t) BIBase.Entails.refl) h0
    replace h0 := BIBase.Entails.trans (mid3_win m K c t a4 a5 a6 _) h0
    clear_value j0
    by_cases h6 : k0_cond6 (grid0.coords t) = 1#1
    · have h8 := (cond6_iff t).1 h6
      rw [if_pos h8]
      refine BIBase.Entails.trans (win_mid3 m K c t a4 a5 a6 _) ?_
      unfold win at h0 ⊢
      iintro ⟨Hm, Ha, Ho, H4, H5, H6⟩
      ihave Ha := (acSt_pos m c (jOf t) 2 (n := 3) rfl) $$ Ha
      iapply (st_pos h6 c)
      iapply st_bind
      iapply (ld_ac c _ (off13_eq t) (j := jOf t) (accv m c 2)) $$ Ha
      iintro Ha
      iapply st_bind
      iapply (ld_one c a5 _ (s1v m c t)) $$ H5
      iintro H5
      iapply st_bind
      iapply (ld_one c a6 _ (s2v m c t)) $$ H6
      iintro H6
      iapply st_bind
      iapply (lda_ac c _ (off13_eq t) (j := jOf t) _) $$ Ha
      iintro %v Ha
      iapply st_bind
      iapply (sto_ac c _ (off13_eq t) (j := jOf t) (accv m c (sOf t)) (acc_last m c t h8) _) $$ Ha
      iintro Ha
      ihave Ha := (acSt_back m c (jOf t) (sOf t) (n := t.val / 8 + 1) rfl) $$ Ha
      iapply h0
      isplitl [Hm]; · iexact Hm
      isplitl [Ha]; · iexact Ha
      isplitl [Ho]; · iexact Ho
      isplitl [H4]; · iexact H4
      isplitl [H5]; · iexact H5
      iexact H6
    · have h8 := fun h => h6 ((cond6_iff t).2 h)
      rw [if_neg h8]
      refine BIBase.Entails.trans (win_mid3 m K c t a4 a5 a6 _) ?_
      iintro H
      iapply (st_neg h6 c)
      iapply h0
      iexact H
  clear_value jA
  replace hA := BIBase.Entails.trans (mid3_win m K c t a4 a5 a6 _) hA
  refine BIBase.Entails.trans (win_mid3 m K c t a4 a5 a6 _) ?_
  unfold half
  by_cases h5 : k0_cond5 (grid0.coords t) = 1#1
  · have h8 := (cond5_iff t).1 h5
    obtain ⟨p, hp, hacc⟩ := acc_mid m c t h8
    rw [if_neg (by omega)] at hA
    rw [if_neg (by omega)]
    iintro ⟨Hm, Ha, Ho, Hwin⟩
    ihave Ha := (acSt_pos m c (jOf t) p hp) $$ Ha
    iapply (st_pos h5 c)
    iapply st_bind
    iapply (ld_ac c _ (off12_eq t) (j := jOf t) (accv m c p)) $$ Ha
    iintro Ha
    iapply st_bind
    iapply (lda_ac c _ (off12_eq t) (j := jOf t) _) $$ Ha
    iintro %v Ha
    iapply st_bind
    iapply (sto_ac c _ (off12_eq t) (j := jOf t) (accv m c (sOf t)) hacc _) $$ Ha
    iintro Ha
    ihave Ha := (acSt_back m c (jOf t) (sOf t) (n := t.val / 8 + 1) rfl) $$ Ha
    iapply hA
    isplitl [Hm]; · iexact Hm
    isplitl [Ha]; · iexact Ha
    isplitl [Ho]; · iexact Ho
    iexact Hwin
  · have h8 : ¬ (t.val / 8 = 1 ∨ t.val / 8 = 2) := fun h => h5 ((cond5_iff t).2 h)
    have ht : t.val < 32 := by have := t.isLt; have := N_0; omega
    have e : (if t.val / 8 = 0 then 1 else t.val / 8) = (if t.val / 8 = 3 then 3 else t.val / 8 + 1) := by
      split <;> split <;> omega
    rw [e]
    iintro H
    iapply (st_neg h5 c)
    iapply hA
    iexact H

end Cert.KernelIdeal.Ring
-- ==== Proof.Finish.lean ====
/- The end of the last step: the waits for the copies and the exit barrier. -/
module

public import proofs.«01_k».proof.Proof.Second

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-! ### Families served in order -/

/-- The first `n` members one way, the others another. -/
def fam {N : ℕ} (A B : Fin N → sProp 𝕄) (n : ℕ) : sProp 𝕄 := bigSep Finset.univ fun i => if i.val < n then A i else B i
/-- All but the one in turn. -/
def famBut {N : ℕ} (A B : Fin N → sProp 𝕄) (j : Fin N) : sProp 𝕄 :=
  bigSep (Finset.univ.erase j) fun i => if i.val < j.val then A i else B i

theorem fam_take {N : ℕ} (A B : Fin N → sProp 𝕄) (j : Fin N) : fam A B j.val ⊢ iprop(B j ∗ famBut A B j) := by
  unfold fam famBut
  rw [take (Finset.mem_univ j), if_neg (Nat.lt_irrefl _)]
theorem fam_put {N : ℕ} (A B : Fin N → sProp 𝕄) (j : Fin N) : iprop(A j ∗ famBut A B j) ⊢ fam A B (j.val + 1) := by
  unfold fam famBut
  rw [take (Finset.mem_univ j), if_pos (Nat.lt_succ_self _)]
  refine BIClass.sep_mono BIBase.Entails.refl (BIBase.Entails.of_eq (bigSep_congr fun i hi => ?_))
  have h : i.val ≠ j.val := fun e => Finset.ne_of_mem_erase hi (Fin.ext e)
  by_cases h1 : i.val < j.val
  · rw [if_pos h1, if_pos (by omega)]
  · rw [if_neg h1, if_neg (by omega)]
theorem fam_zero {N : ℕ} (A B : Fin N → sProp 𝕄) : fam A B 0 = bigSep Finset.univ B :=
  bigSep_congr fun _ _ => if_neg (Nat.not_lt_zero _)
theorem fam_all {N : ℕ} (A B : Fin N → sProp 𝕄) : fam A B N = bigSep Finset.univ A :=
  bigSep_congr fun i _ => if_pos i.isLt

/-- The copies of the panels, `n` of them waited for. -/
def outs (n : ℕ) : sProp 𝕄 :=
  fam (fun j : Fin 8 => iprop(atPos ER (own c (kOut j)) 1 ∅ 0 ∗ (ouP c j (outAll m c) ∗ acP c j (outAll m c))))
    (fun j => iprop(cred (tallyAt (own c (kOut j)) () nB) ∗ atPos ER (own c (kOut j)) 0 ∅ 0)) n
/-- The sends, `n` of them waited for. -/
def snds (n : ℕ) : sProp 𝕄 :=
  fam (fun k : Fin 3 => iprop(atPos ER (own c (kSnd k)) 1 ∅ 0 ∗ x8P c (sndTo c k) (x8All m c)))
    (fun k => iprop(cred (tallyAt (own c (kSnd k)) () nX) ∗ atPos ER (own c (kSnd k)) 0 ∅ 0)) n

/-- While the copies are waited for. -/
def wait_ (n k : ℕ) : sProp 𝕄 := iprop(recs m K ∗ levAts L lv ∗ ow c (oEnd c) ∗ outs m c n ∗ snds m c k)

theorem dut_out (j : Fin 8) : dut c (some (kOut j)) 0 = {c} := rfl
theorem dut_snd (k : Fin 3) : dut c (some (kSnd k)) 0 = {c} := rfl
theorem above_oEnd0 : Above 0 (oEnd c) := (above_oEnd c).mono (by decide)

/-- The wait for a panel's copy. -/
theorem wt_out (j : Fin 8) {k : ℕ} {β : Type} {Kt : β → sProp 𝕄} {Q : sProp 𝕄} {J : Prog (TpuEff nD τ sig (Elt F) Λ₀ .tc) β}
    {s : DmaSem sig} (hs : SemLoc.dma s = loc (some (kOut j))) {sp sp' : Space} {S S' : Shape} {ty ty' : EltTy}
    {src : Memref sig .tc sp' S' ty'} {dst : Memref sig .tc sp S ty} {h1 : src.view.WordExact} {h2 : dst.view.WordExact}
    (hN : dst.view.dmaCredit = nB) (hJ : iprop(wait_ m K c (j.val + 1) k ∗ Q) ⊢ WP c J Kt) :
    iprop(wait_ m K c j.val k ∗ Q) ⊢ WP c (Prog.lift (.waitDma2 s src dst h1 h2) >>= fun _ => J) Kt := by
  unfold wait_ outs at *
  iintro ⟨⟨#HI, #Hlev, HO, Ho, Hs⟩, HQ⟩
  ihave Ho := (fam_take _ _ j) $$ Ho
  icases Ho with ⟨⟨Hc, Ha⟩, Ho⟩
  iapply st_bind
  iapply (st_waitDma m K c (some (kOut j)) 0 c (dut_out c j) hs hN (n := 0) (Nat.le_refl 0) (above_oEnd0 c)) $$ [HO Hc Ha]
  · isplitr; · iexact HI
    isplitr; · iexact Hlev
    isplitl [HO]; · iexact HO
    isplitl [Hc]; · iexact Hc
    iexact Ha
  rw [pay_out]
  iintro ⟨HO, Ha, -, Hp⟩
  iapply hJ
  isplitr [HQ]
  · isplitr; · iexact HI
    isplitr; · iexact Hlev
    isplitl [HO]; · iexact HO
    isplitr [Hs]
    · iapply (fam_put _ _ j)
      isplitr [Ho]
      · isplitl [Ha]; · iexact Ha
        iexact Hp
      iexact Ho
    iexact Hs
  iexact HQ

/-- The wait for a send. -/
theorem wt_snd (k : Fin 3) {n : ℕ} {β : Type} {Kt : β → sProp 𝕄} {Q : sProp 𝕄} {J : Prog (TpuEff nD τ sig (Elt F) Λ₀ .tc) β}
    {s : DmaSem sig} (hs : SemLoc.dma s = loc (some (kSnd k))) {sp sp' : Space} {S S' : Shape} {ty ty' : EltTy}
    {src : Memref sig .tc sp' S' ty'} {dst : Memref sig .tc sp S ty} {h1 : src.view.WordExact} {h2 : dst.view.WordExact}
    (hN : dst.view.dmaCredit = nX) (hJ : iprop(wait_ m K c n (k.val + 1) ∗ Q) ⊢ WP c J Kt) :
    iprop(wait_ m K c n k.val ∗ Q) ⊢ WP c (Prog.lift (.waitDma2 s src dst h1 h2) >>= fun _ => J) Kt := by
  unfold wait_ snds at *
  iintro ⟨⟨#HI, #Hlev, HO, Ho, Hs⟩, HQ⟩
  ihave Hs := (fam_take _ _ k) $$ Hs
  icases Hs with ⟨⟨Hc, Ha⟩, Hs⟩
  iapply st_bind
  iapply (st_waitDma m K c (some (kSnd k)) 0 c (dut_snd c k) hs hN (n := 0) (Nat.le_refl 0) (above_oEnd0 c)) $$ [HO Hc Ha]
  · isplitr; · iexact HI
    isplitr; · iexact Hlev
    isplitl [HO]; · iexact HO
    isplitl [Hc]; · iexact Hc
    iexact Ha
  rw [pay_snd]
  iintro ⟨HO, Ha, -, Hp⟩
  iapply hJ
  isplitr [HQ]
  · isplitr; · iexact HI
    isplitr; · iexact Hlev
    isplitl [HO]; · iexact HO
    isplitl [Ho]; · iexact Ho
    iapply (fam_put _ _ k)
    isplitr [Hs]
    · isplitl [Ha]; · iexact Ha
      iexact Hp
    iexact Hs
  iexact HQ

variable (i : grid0.Coords) (a4 : Memref sig .tc .vmem S1024x1024 .f32) (h4 : a4.IsWhole)
  (a5 : Memref sig .tc .smem S1 .f32) (h5 : a5.IsWhole) (a6 : Memref sig .tc .smem S1 .f32) (h6 : a6.IsWhole)

/-- The waits for the first six panels. -/
theorem part7 {Q : sProp 𝕄} (Kt : PUnit → sProp 𝕄) (hk : iprop(wait_ m K c 6 0 ∗ Q) ⊢ Kt ⟨⟩) :
    iprop(wait_ m K c 0 0 ∗ Q) ⊢ WP c (k0_part7 (F := F) i bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0) Kt := by
  rw [k0_part7_eq_skeleton]
  unfold k0_part7_skel
  dsimp -proj only
  refine wt_out m K c 0 (out_sem 0 rfl _) ((ouM_credit _).trans nB_eq) ?_
  refine wt_out m K c 1 (out_sem 1 rfl _) ((ouM_credit _).trans nB_eq) ?_
  refine wt_out m K c 2 (out_sem 2 rfl _) ((ouM_credit _).trans nB_eq) ?_
  refine wt_out m K c 3 (out_sem 3 rfl _) ((ouM_credit _).trans nB_eq) ?_
  refine wt_out m K c 4 (out_sem 4 rfl _) ((ouM_credit _).trans nB_eq) ?_
  refine wt_out m K c 5 (out_sem 5 rfl _) ((ouM_credit _).trans nB_eq) ?_
  exact hk.trans (st_pure c _ Kt)

/-- The waits for the last two panels and the first two sends. -/
theorem part8 {Q : sProp 𝕄} (Kt : PUnit → sProp 𝕄) (hk : iprop(wait_ m K c 8 2 ∗ Q) ⊢ Kt ⟨⟩) :
    iprop(wait_ m K c 6 0 ∗ Q) ⊢ WP c (k0_part8 (F := F) i bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0) Kt := by
  rw [k0_part8_eq_skeleton]
  unfold k0_part8_skel
  dsimp -proj only
  refine wt_out m K c 6 (out_sem 6 rfl _) ((ouM_credit _).trans nB_eq) ?_
  refine wt_out m K c 7 (out_sem 7 rfl _) ((ouM_credit _).trans nB_eq) ?_
  refine wt_snd m K c 0 (snd_sem 0 rfl _) ((x8M_credit _).trans nX_eq) ?_
  refine wt_snd m K c 1 (snd_sem 1 rfl _) ((x8M_credit _).trans nX_eq) ?_
  exact hk.trans (st_pure c _ Kt)

theorem mem_dut_end : ∀ (c : Dev nD) (k : Fin 3), c ∈ dut (at_ c k.succ) (some kEnd) 0 := by decide
theorem card_end : ∀ c : Dev nD, 3 = (dut c (some kEnd) 0).card * amt (some kEnd) := by decide

/-- A signal of another device's exit barrier. -/
theorem sg_end (k : Fin 3) {n : Dev nD} (hn : n = at_ c k.succ) (O : CellTallies nD τ sig Unit) {O' : CellTallies nD τ sig Unit}
    (hO : O' = O + tE (at_ c k.succ)) (Kt : PUnit → sProp 𝕄) :
    iprop(recs m K ∗ ow c O' ∗ dutyTok ER (own (at_ c k.succ) kEnd) 0 c ∗ reached ER (own (at_ c k.succ) kEnd) 0)
      ⊢ iprop((ow c O -∗ Kt ⟨⟩) -∗ WP c (semSignalWord n (cc0_scoped0 : Sems sig S_).sem 1#32) Kt) := by
  iintro ⟨HI, HO, Ht, Hr⟩
  iapply (st_signal m K c (at_ c k.succ) (some kEnd) (mem_dut_end c k) rfl end_sem hn O hO Kt)
  isplitl [HI]; · iexact HI
  isplitl [HO]; · iexact HO
  isplitl [Ht]; · iexact Ht
  isplitr
  · rw [show pay m (at_ c k.succ) (some kEnd) 0 c = iprop(emp) from rfl]; iempintro
  iexact Hr

/-- What the exit barrier's signals take. -/
def endT (k : Fin 3) : sProp 𝕄 :=
  iprop(dutyTok ER (own (at_ c k.succ) kEnd) 0 c ∗ reached ER (own (at_ c k.succ) kEnd) 0)

/-- The wait for the last send, and the exit barrier's first two signals. -/
theorem part9 (hw : k0_chk1 i (w_ c)) (h15 : k0_cond15 i = 1#1) {Q : sProp 𝕄} (Kt : BitVec 32 → sProp 𝕄)
    (hk : iprop(recs m K ∗ levAts L lv ∗ ow c (tE (at_ c 3)) ∗ outs m c 8 ∗ snds m c 3 ∗ Q) ⊢ Kt 3#32) :
    iprop(wait_ m K c 8 2 ∗ endT (F := F) c 0 ∗ endT (F := F) c 1 ∗ Q) ⊢ WP c (k0_part9 (F := F) i bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0 (w_ c) hw h15) Kt := by
  rw [k0_part9_eq_skeleton]
  unfold k0_part9_skel
  dsimp -proj only
  refine wt_snd m K c 2 (snd_sem 2 rfl _) ((x8M_credit _).trans nX_eq) ?_
  unfold wait_ endT
  iintro ⟨⟨#HI, #Hlev, HO, Ho, Hs⟩, ⟨Ht, Hr⟩, ⟨Ht', Hr'⟩, HQ⟩
  iapply st_bind
  iapply (sg_end m K c 0 (Fin.ext (dev7_eq c)) (tE (at_ c 3) + tE (at_ c 2)) rfl) $$ [HO Ht Hr]
  · isplitr; · iexact HI
    isplitl [HO]; · iexact HO
    isplitl [Ht]; · iexact Ht
    iexact Hr
  iintro HO
  iapply st_bind
  iapply (sg_end m K c 1 (Fin.ext (dev8_eq c)) (tE (at_ c 3)) rfl) $$ [HO Ht' Hr']
  · isplitr; · iexact HI
    isplitl [HO]; · iexact HO
    isplitl [Ht']; · iexact Ht'
    iexact Hr'
  iintro HO
  iapply st_pure
  iapply hk
  isplitr; · iexact HI
  isplitr; · iexact Hlev
  isplitl [HO]; · iexact HO
  isplitl [Ho]; · iexact Ho
  isplitl [Hs]; · iexact Hs
  iexact HQ

/-! ### What is left at the end -/

theorem fin2 (Φ : Fin 2 → sProp 𝕄) : bigSep Finset.univ Φ = iprop(Φ 0 ∗ Φ 1) := by
  rw [show (Finset.univ : Finset (Fin 2)) = {0, 1} by decide, bigSep_insert (by decide), bigSep_singleton]
  rfl
theorem fin4 (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl
theorem four (Φ : Dev nD → sProp 𝕄) :
    bigSep Finset.univ Φ = iprop(Φ c ∗ Φ (at_ c 1) ∗ Φ (at_ c 2) ∗ Φ (at_ c 3)) := by
  rw [take (Finset.mem_univ c), others c, bigSep_insert (at_ne1 c), bigSep_insert (at_ne2 c), bigSep_singleton]
  rfl

/-- Nothing below takes these. -/
def still : sProp 𝕄 :=
  iprop(tabP (F := F) c ∗ atPos ER (bar c) 1 ∅ 0 ∗ (∃ f, stP (F := F) c 0 f) ∗ (∃ f, stP (F := F) c 1 f)
    ∗ stgAt (F := F) c 0 2 ∗ stgAt (F := F) c 1 2
    ∗ bigSep Finset.univ (fun b : Dev nD => xP c b (xIn m c)) ∗ (∃ f, x8P (F := F) c c f)
    ∗ (∃ X, owns (c : Thread nD τ) bW8 fullShare (X : S1024x1024.Idx → Elt F .fp8e5m2))
    ∗ (∃ X, owns (c : Thread nD τ) bXc fullShare (X : S1024x1024.Idx → Elt F .fp8e5m2))
    ∗ bigSep Finset.univ (fun b : Dev nD => rvP c b (recvAll m c))
    ∗ bigSep Finset.univ (fun b : Dev nD => atPos ER (own c (kRcv b)) (rnd c (kRcv b)) ∅ 0))
/-- The exit barrier's own part. -/
def endIn : sProp 𝕄 := iprop(endT (F := F) c 2 ∗ atPos ER (own c kEnd) 0 ∅ 0 ∗ cred (tallyAt (own c kEnd) () 3))

/-- After the last step. -/
def done : sProp 𝕄 :=
  iprop(tabP (F := F) c ∗ ow c 0 ∗ bigSep Finset.univ (fun k : OK => semVal (own c k) 0) ∗ semVal (bar c) 0
    ∗ bigSep Finset.univ (fun b : Dev nD => xP c b (xIn m c))
    ∗ bigSep Finset.univ (fun j : Fin 8 => ouP c j (outAll m c))
    ∗ bigSep Finset.univ (fun i : Fin 2 => iprop(∃ f, stP (F := F) c i f))
    ∗ bigSep Finset.univ (fun b : Dev nD => iprop(∃ f, x8P (F := F) c b f))
    ∗ bigSep Finset.univ (fun b : Dev nD => rvP c b (recvAll m c))
    ∗ bigSep Finset.univ (fun j : Fin 8 => acP c j (outAll m c))
    ∗ (∃ X, owns (c : Thread nD τ) bW8 fullShare (X : S1024x1024.Idx → Elt F .fp8e5m2))
    ∗ (∃ X, owns (c : Thread nD τ) bXc fullShare (X : S1024x1024.Idx → Elt F .fp8e5m2)))

theorem rnd_own : ∀ c : Dev nD, rnd c (kRcv c) = 0 := by decide
theorem rnd_at : ∀ (c : Dev nD) (k : Fin 3), rnd c (kRcv (at_ c k.succ)) = 1 := by decide

theorem rcv_all : bigSep Finset.univ (rcvSt m c 32)
    ⊢ iprop(bigSep Finset.univ (fun b : Dev nD => rvP c b (recvAll m c))
      ∗ bigSep Finset.univ (fun b : Dev nD => atPos ER (own c (kRcv b)) (rnd c (kRcv b)) ∅ 0)) := by
  have e0 : rcvSt m c 32 0 = iprop(rvP c c (recvAll m c) ∗ atPos ER (own c (kRcv c)) 0 ∅ 0) := by
    rw [show rcvSt m c 32 0 = iprop(rvP c (at_ c (sig_ 0)) (recvAll m c) ∗ atPos ER (own c (kRcv (at_ c (sig_ 0)))) 0 ∅ 0) from if_pos rfl,
      show at_ c (sig_ 0) = c from at_zero c]
  have e : ∀ s : Fin 4, s ≠ 0 → rcvSt m c 32 s
      = iprop(rvP c (at_ c (sig_ s)) (recvAll m c) ∗ atPos ER (own c (kRcv (at_ c (sig_ s)))) 1 ∅ 0) := fun s hs => by
    unfold rcvSt
    rw [if_neg hs, if_pos (by have := s.isLt; omega)]
  rw [fin4, e0, e 1 (by decide), e 2 (by decide), e 3 (by decide), four c, four c, rnd_own, show rnd c (kRcv (at_ c 1)) = 1 from rnd_at c 0,
    show rnd c (kRcv (at_ c 2)) = 1 from rnd_at c 1, show rnd c (kRcv (at_ c 3)) = 1 from rnd_at c 2]
  iintro ⟨⟨H0, A0⟩, ⟨H1, A1⟩, ⟨H3, A3⟩, ⟨H2, A2⟩⟩
  isplitl [H0 H1 H2 H3]
  · isplitl [H0]; · iexact H0
    isplitl [H1]; · iexact H1
    isplitl [H2]; · iexact H2
    iexact H3
  isplitl [A0]; · iexact A0
  isplitl [A1]; · iexact A1
  isplitl [A2]; · iexact A2
  iexact A3

theorem mid_wait : mid m K c 32 ⊢ iprop(wait_ m K c 0 0 ∗ (endT (F := F) c 0 ∗ endT (F := F) c 1 ∗ (endIn (F := F) c ∗ still m c))) := by
  have e : bigSep Finset.univ (fun j => colSt m c j (cnt 32 j)) = bigSep Finset.univ (fun j : Fin 8 => cred (tallyAt (own c (kOut j)) () nB)) :=
    bigSep_congr fun j _ => by
      unfold colSt
      exact if_neg (by show ¬ (32 + 7 - j.val) / 8 < 4; have := j.isLt; omega)
  unfold mid base keep sent wait_ outs snds endIn still endT
  rw [e, fam_zero, fam_zero, bigSep_sep', bigSep_sep', four c (fun b => xP c b (xIn m c)), fin3 (fun k => dutyTok ER (own (sndTo c k) kEnd) 0 c),
    fin3 (fun k => reached ER (own (sndTo c k) kEnd) 0)]
  iintro ⟨⟨HI, Hl, Ht, HO, ⟨Hs, He, Hc, ⟨T0, T1, T2⟩, Hoa⟩, S0, S1, A0, A1, X0, X1, X2, X3, H8, Hsc, ⟨R0, R1, R2⟩, Hb⟩, Hw, ⟨%X, -, Hx⟩, Hr, Ho⟩
  ihave Hr := (rcv_all m c) $$ Hr
  icases Hr with ⟨Hr, Hra⟩
  isplitl [HI Hl HO Ho Hoa Hs Hsc]
  · isplitl [HI]; · iexact HI
    isplitl [Hl]; · iexact Hl
    isplitl [HO]; · iexact HO
    isplitl [Ho Hoa]
    · isplitl [Ho]; · iexact Ho
      iexact Hoa
    isplitl [Hsc]; · iexact Hsc
    iexact Hs
  isplitl [T0 R0]
  · isplitl [T0]; · iexact T0
    iexact R0
  isplitl [T1 R1]
  · isplitl [T1]; · iexact T1
    iexact R1
  isplitl [T2 R2 He Hc]
  · isplitl [T2 R2]
    · isplitl [T2]; · iexact T2
      iexact R2
    isplitl [He]; · iexact He
    iexact Hc
  isplitl [Ht]; · iexact Ht
  isplitl [Hb]; · iexact Hb
  isplitl [S0]; · iexact S0
  isplitl [S1]; · iexact S1
  isplitl [A0]; · iexact A0
  isplitl [A1]; · iexact A1
  isplitl [X0 X1 X2 X3]
  · isplitl [X0]; · iexact X0
    isplitl [X1]; · iexact X1
    isplitl [X2]; · iexact X2
    iexact X3
  isplitl [H8]; · iexact H8
  isplitl [Hw]; · iexact Hw
  isplitl [Hx]; · iexists X; iexact Hx
  isplitl [Hr]; · iexact Hr
  iexact Hra

/-- A cell past its last round is closed. -/
theorem shut1 (k : Option OK) (R : ℕ) (h : ∀ r, R ≤ r → dut c k r = ∅) :
    iprop(recs m K ∗ atPos ER (cell c k) R ∅ 0) ⊢ |={Set.univ}=> semVal (cell c k) 0 := by
  iintro ⟨HI, Ha⟩
  ihave Hi := (recs_at m K c k) $$ HI
  iapply (Rounds.cell_close ER (Rd m) (κ := K (c, k)) (Set.mem_univ _) id (R := R) (fun r hr => by rw [duties_cell]; exact h r hr))
  isplitl [Hi]; · iexact Hi
  iexact Ha

theorem shut : iprop(recs m K ∗ bigSep Finset.univ (fun k : OK => atPos ER (own c k) (rnd c k) ∅ 0))
    ⊢ |={Set.univ}=> bigSep Finset.univ (fun k : OK => semVal (own c k) 0) :=
  (bigSep_with_persistent fun k _ => shut1 m K c (some k) (rnd c k) (dut_end c k)).trans (bigSep_fupd _ _)

theorem all_own (Φ : OK → sProp 𝕄) : bigSep Finset.univ Φ = iprop(Φ kEnd ∗ bigSep Finset.univ (fun i => Φ (kStg i))
    ∗ bigSep Finset.univ (fun k => Φ (kSnd k)) ∗ bigSep Finset.univ (fun b => Φ (kRcv b)) ∗ bigSep Finset.univ (fun j => Φ (kOut j))) := by
  rw [bigSep_univ_sum, bigSep_univ_sum, bigSep_univ_sum, bigSep_univ_sum, show (Finset.univ : Finset Unit) = {()} from rfl, bigSep_singleton]
  rfl

theorem closing :
    iprop(recs m K ∗ ow c 0 ∗ atPos ER (own c kEnd) 1 ∅ 0 ∗ outs m c 8 ∗ snds m c 3 ∗ still m c) ⊢ |={Set.univ}=> done m c := by
  unfold outs snds still done stgAt
  rw [fam_all, fam_all, bigSep_sep', bigSep_sep', bigSep_sep', fin2 (fun i => iprop(∃ f, stP (F := F) c i f)),
    four c (fun b => iprop(∃ f, x8P (F := F) c b f)), fin3 (fun k => x8P c (sndTo c k) (x8All m c))]
  iintro ⟨#HI, HO, He, ⟨Hoa, Hou, Hac⟩, ⟨Hsa, Y1, Y2, Y3⟩, Ht, Hb, S0, S1, A0, A1, Hx, Y0, Hw, Hxc, Hr, Hra⟩
  imod (shut1 m K c none 1 (fun r hr => if_neg (by omega))) $$ [Hb] with Hb
  · isplitr; · iexact HI
    iexact Hb
  ihave Hall := (BIBase.Entails.of_eq (all_own (fun k => atPos ER (own c k) (rnd c k) ∅ 0)).symm) $$ [He A0 A1 Hsa Hra Hoa]
  · isplitl [He]; · iexact He
    isplitl [A0 A1]
    · rw [fin2]
      isplitl [A0]; · iexact A0
      iexact A1
    isplitl [Hsa]; · iexact Hsa
    isplitl [Hra]; · iexact Hra
    iexact Hoa
  imod (shut m K c) $$ [Hall] with Hall
  · isplitr; · iexact HI
    iexact Hall
  imodintro
  isplitl [Ht]; · iexact Ht
  isplitl [HO]; · iexact HO
  isplitl [Hall]; · iexact Hall
  isplitl [Hb]; · iexact Hb
  isplitl [Hx]; · iexact Hx
  isplitl [Hou]; · iexact Hou
  isplitl [S0 S1]
  · isplitl [S0]; · iexact S0
    iexact S1
  isplitl [Y0 Y1 Y2 Y3]
  · isplitl [Y0]; · iexact Y0
    isplitl [Y1]; · iexists _; iexact Y1
    isplitl [Y2]; · iexists _; iexact Y2
    iexists _; iexact Y3
  isplitl [Hr]; · iexact Hr
  isplitl [Hac]; · iexact Hac
  isplitl [Hw]; · iexact Hw
  iexact Hxc

/-- The program's end, after an update. -/
theorem st_pure_upd {α : Type} (a : α) (Kt : α → sProp 𝕄) :
    iprop(|={Set.univ}=> Kt a) ⊢ WP c (pure a : Prog (TpuEff nD τ sig (Elt F) Λ₀ .tc) α) Kt := by
  show _ ⊢ wp frame (wpE (defs₀ (F := F)) 𝒱₀ (c : Thread nD τ) none) Set.univ (pure a) Kt
  rw [wp_pure]

end Cert.KernelIdeal.Ring
-- ==== Proof.Step.lean ====
/- One step of the grid. -/
module

public import proofs.«01_k».proof.Proof.Finish

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-- The state after a step. -/
def after (t : ℕ) : sProp 𝕄 := if t = 31 then done m c else mid m K c (t + 1)

variable (t : Fin grid0.N) (a4 : Memref sig .tc .vmem S1024x1024 .f32) (h4 : a4.IsWhole)
  (a5 : Memref sig .tc .smem S1 .f32) (h5 : a5.IsWhole) (a6 : Memref sig .tc .smem S1 .f32) (h6 : a6.IsWhole)

/-- The exit barrier's last signal and its wait, and what the body then hands back. -/
theorem leave {Q : sProp 𝕄} (hw : k0_chk1 (grid0.coords t) (w_ c)) (h15 : k0_cond15 (grid0.coords t) = 1#1)
    {β : Type} {J : Prog (TpuEff nD τ sig (Elt F) Λ₀ .tc) β} {Kt : β → sProp 𝕄}
    (hJ : iprop(recs m K ∗ ow c 0 ∗ atPos ER (own c kEnd) 1 ∅ 0 ∗ outs m c 8 ∗ snds m c 3 ∗ Q) ⊢ WP c J Kt) :
    iprop(recs m K ∗ levAts L lv ∗ ow c (tE (at_ c 3)) ∗ outs m c 8 ∗ snds m c 3 ∗ (endIn (F := F) c ∗ Q))
      ⊢ WP c (semSignalWord (⟨k0_dev9 (w_ c), k0_dev9_lt (grid0.coords t) (w_ c) hw h15⟩ : Dev nD) (cc0_scoped0 : Sems sig S_).sem 1#32 >>= fun _ =>
          semWaitWord (cc0_scoped0 : Sems sig S_).sem 3#32 >>= fun _ => J) Kt := by
  unfold endIn endT
  iintro ⟨#HI, #Hlev, HO, Ho, Hs, ⟨⟨Ht, Hr⟩, Ha, Hc⟩, HQ⟩
  iapply st_bind
  iapply (sg_end m K c 2 (Fin.ext (dev9_eq c)) 0 (zero_add _).symm) $$ [HO Ht Hr]
  · isplitr; · iexact HI
    isplitl [HO]; · iexact HO
    isplitl [Ht]; · iexact Ht
    iexact Hr
  iintro HO
  iapply st_bind
  iapply (st_wait m K c (some kEnd) 0 end_sem (a := 3) (by decide) (card_end c) (n := 3) (Nat.le_refl 3) (above_zero 3)) $$ [HO Hc Ha]
  · isplitr; · iexact HI
    isplitr; · iexact Hlev
    isplitl [HO]; · iexact HO
    isplitl [Hc]; · iexact Hc
    iexact Ha
  iintro ⟨HO, Ha, -⟩
  iapply hJ
  isplitr; · iexact HI
  isplitl [HO]; · iexact HO
  isplitl [Ha]; · iexact Ha
  isplitl [Ho]; · iexact Ho
  isplitl [Hs]; · iexact Hs
  iexact HQ

theorem last_split (Q : sProp 𝕄) :
    iprop(wait_ m K c 8 2 ∗ ((endT (F := F) c 0 ∗ endT (F := F) c 1 ∗ (endIn (F := F) c ∗ still m c)) ∗ Q))
      ⊢ iprop(wait_ m K c 8 2 ∗ endT (F := F) c 0 ∗ endT (F := F) c 1 ∗ (endIn (F := F) c ∗ (still m c ∗ Q))) := by
  iintro ⟨H, ⟨H0, H1, H2, H3⟩, HQ⟩
  isplitl [H]; · iexact H
  isplitl [H0]; · iexact H0
  isplitl [H1]; · iexact H1
  isplitl [H2]; · iexact H2
  isplitl [H3]; · iexact H3
  iexact HQ

/-- One step of the grid. -/
theorem step (Kt : PUnit → sProp 𝕄)
    (hk : iprop(|={Set.univ}=> (after m K c t.val ∗ win m c t a4 a5 a6)) ⊢ Kt ⟨⟩) :
    iprop(before m K c t.val ∗ win m c t a4 a5 a6) ⊢ WP c (cc0_body (F := F) (grid0.coords t) bTab (Memref.isWhole_whole _) bX (Memref.isWhole_whole _) a4 h4 a5 h5 a6 h6 bOut (Memref.isWhole_whole _) bStg (Memref.isWhole_whole _) bX8 (Memref.isWhole_whole _) bRv (Memref.isWhole_whole _) bXc (Memref.isWhole_whole _) bW8 (Memref.isWhole_whole _) bAcc (Memref.isWhole_whole _) cc0_scratch6 cc0_scratch7 cc0_scratch8 cc0_scratch9 cc0_scoped0) Kt := by
  rw [cc0_body_eq_skeleton]
  unfold cc0_body_skel
  refine BIBase.Entails.trans ?_ (st_bind c _ _ _)
  refine part10 m K c t a4 h4 a5 h5 a6 h6 _ ?_
  refine BIBase.Entails.trans ?_ (st_bind c _ _ _)
  refine part11 m K c t a4 h4 a5 h5 a6 h6 _ _ _ ?_
  extract_lets -underBinder _ _ _ _ _ j6
  refine out_if m K c t 5 (out_iff 5 t) (J := j6 ()) ?_ _ _ rfl rfl (out_sem 5 rfl _)
  unfold j6
  beta_reduce
  extract_lets -underBinder _ _ _ _ j7
  refine out_if m K c t 6 (out_iff 6 t) (J := j7 ()) ?_ _ _ rfl rfl (out_sem 6 rfl _)
  unfold j7
  beta_reduce
  extract_lets -underBinder _ _ _ _ j8
  refine out_if m K c t 7 (out_iff 7 t) (J := j8 ()) ?_ _ _ rfl rfl (out_sem 7 rfl _)
  unfold j8
  beta_reduce
  extract_lets -underBinder jE
  have hE : iprop(|={Set.univ}=> (after m K c t.val ∗ win m c t a4 a5 a6)) ⊢ WP c (jE ()) Kt := by
    unfold jE
    beta_reduce
    exact hk.trans (st_pure c _ Kt)
  clear_value jE
  refine BIBase.Entails.trans (BIClass.sep_mono (mid4_mid m K c t) BIBase.Entails.refl) ?_
  unfold after at hE
  by_cases h15 : k0_cond15 (grid0.coords t) = 1#1
  · have ht := (cond15_iff t).1 h15
    rw [if_pos ht] at hE
    rw [ht]
    refine BIBase.Entails.trans ?_ (st_pos h15 c _ _ Kt)
    refine BIBase.Entails.trans (BIClass.sep_mono (mid_wait m K c) BIBase.Entails.refl) ?_
    refine BIBase.Entails.trans sep_assoc.1 ?_
    refine BIBase.Entails.trans ?_ (st_bind c _ _ Kt)
    refine part7 m K c _ a4 h4 a5 h5 a6 h6 _ ?_
    refine BIBase.Entails.trans ?_ (st_bind c _ _ Kt)
    refine part8 m K c _ a4 h4 a5 h5 a6 h6 _ ?_
    refine BIBase.Entails.trans ?_ (st_bind c _ _ Kt)
    refine BIBase.Entails.trans (last_split m K c _) ?_
    refine part9 m K c _ a4 h4 a5 h5 a6 h6 (chk1_all t c) h15 _ ?_
    refine leave m K c t (chk1_all t c) h15 ?_
    refine BIBase.Entails.trans ?_ hE
    iintro ⟨HI, HO, Ha, Ho, Hs, Ht, Hw⟩
    imod (closing m K c) $$ [HI HO Ha Ho Hs Ht] with H
    · isplitl [HI]; · iexact HI
      isplitl [HO]; · iexact HO
      isplitl [Ha]; · iexact Ha
      isplitl [Ho]; · iexact Ho
      isplitl [Hs]; · iexact Hs
      iexact Ht
    imodintro
    isplitl [H]; · iexact H
    iexact Hw
  · have ht : t.val ≠ 31 := fun h => h15 ((cond15_iff t).2 h)
    rw [if_neg ht] at hE
    iintro H
    iapply (st_neg h15 c)
    iapply hE
    imodintro
    iexact H

end Cert.KernelIdeal.Ring
-- ==== Proof.Body.lean ====
/- The steps of the grid as the body of the pipeline. -/
module

public import proofs.«01_k».proof.Proof.Step

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-! # The steps as the pipeline's body -/

/-- What the device still owes before step `t`. -/
def owedN (t : ℕ) : CellTallies nD τ sig Unit := if t = 0 then O₀ c else if t = 32 then 0 else oEnd c

/-- A state between steps, what is owed apart. -/
def midR (t : ℕ) : sProp 𝕄 :=
  iprop(recs m K ∗ levAts L lv ∗ tabP (F := F) c ∗ keep (F := F) c ∗ sent m c
    ∗ (∃ X, owns (c : Thread nD τ) bW8 fullShare (X : S1024x1024.Idx → Elt F .fp8e5m2))
    ∗ (∃ X, ⌜∀ s : Fin 4, t % 8 ≠ 0 → s.val = t / 8 → X = xc m c s⌝ ∗ owns (c : Thread nD τ) bXc fullShare (X : S1024x1024.Idx → Elt F .fp8e5m2))
    ∗ bigSep Finset.univ (rcvSt m c t) ∗ bigSep Finset.univ (fun j => colSt m c j (cnt t j)))

/-- The state at the end, what is owed apart. -/
def doneR : sProp 𝕄 :=
  iprop(tabP (F := F) c
    ∗ bigSep Finset.univ (fun k : OK => semVal (own c k) 0) ∗ semVal (bar c) 0
    ∗ bigSep Finset.univ (fun b : Dev nD => xP c b (xIn m c))
    ∗ bigSep Finset.univ (fun j : Fin 8 => ouP c j (outAll m c))
    ∗ bigSep Finset.univ (fun i : Fin 2 => iprop(∃ f, stP (F := F) c i f))
    ∗ bigSep Finset.univ (fun b : Dev nD => iprop(∃ f, x8P (F := F) c b f))
    ∗ bigSep Finset.univ (fun b : Dev nD => rvP c b (recvAll m c))
    ∗ bigSep Finset.univ (fun j : Fin 8 => acP c j (outAll m c))
    ∗ (∃ X, owns (c : Thread nD τ) bW8 fullShare (X : S1024x1024.Idx → Elt F .fp8e5m2))
    ∗ (∃ X, owns (c : Thread nD τ) bXc fullShare (X : S1024x1024.Idx → Elt F .fp8e5m2)))

/-- The state before step `t`, what is owed apart. -/
def restR (t : ℕ) : sProp 𝕄 :=
  if t = 0 then iprop(recs m K ∗ levAts L lv ∗ fresh m c ∗ idle m c) else if t = 32 then doneR m c else midR m K c t

theorem mid_midR (t : ℕ) : mid m K c t ⊢ iprop(midR m K c t ∗ ow c (oEnd c)) := by
  unfold mid base midR
  iintro ⟨⟨#HI, #HL, HT, HO, HK, HS⟩, HR⟩
  isplitr [HO]
  · isplitr; · iexact HI
    isplitr; · iexact HL
    isplitl [HT]; · iexact HT
    isplitl [HK]; · iexact HK
    isplitl [HS]; · iexact HS
    iexact HR
  iexact HO

theorem midR_mid (t : ℕ) : iprop(midR m K c t ∗ ow c (oEnd c)) ⊢ mid m K c t := by
  unfold mid base midR
  iintro ⟨⟨#HI, #HL, HT, HK, HS, HR⟩, HO⟩
  isplitr [HR]
  · isplitr; · iexact HI
    isplitr; · iexact HL
    isplitl [HT]; · iexact HT
    isplitl [HO]; · iexact HO
    isplitl [HK]; · iexact HK
    iexact HS
  iexact HR

theorem done_doneR : done m c ⊢ iprop(doneR m c ∗ ow c 0) := by
  unfold done doneR
  iintro ⟨HT, HO, HR⟩
  isplitr [HO]
  · isplitl [HT]; · iexact HT
    iexact HR
  iexact HO

theorem before_intro (t : Fin grid0.N) : iprop(restR m K c t.val ∗ ow c (owedN c t.val)) ⊢ before m K c t.val := by
  unfold restR owedN before
  by_cases h : t.val = 0
  · rw [if_pos h, if_pos h, if_pos h]
    unfold first
    iintro ⟨⟨#HI, #HL, HF, HD⟩, HO⟩
    isplitr; · iexact HI
    isplitr; · iexact HL
    isplitl [HO]; · iexact HO
    isplitl [HF]; · iexact HF
    iexact HD
  · have h2 : t.val ≠ 32 := Nat.ne_of_lt t.isLt
    rw [if_neg h, if_neg h, if_neg h, if_neg h2, if_neg h2]
    exact midR_mid m K c t.val

theorem after_elim (t : Fin grid0.N) : after m K c t.val ⊢ iprop(restR m K c (t.val + 1) ∗ ow c (owedN c (t.val + 1))) := by
  unfold restR owedN after
  rw [if_neg (Nat.succ_ne_zero _), if_neg (Nat.succ_ne_zero _)]
  by_cases h : t.val = 31
  · have h2 : t.val + 1 = 32 := by rw [h]
    rw [if_pos h, if_pos h2, if_pos h2]
    exact done_doneR m c
  · have h2 : ¬ t.val + 1 = 32 := fun e => h (Nat.succ.inj e)
    rw [if_neg h, if_neg h2, if_neg h2]
    exact mid_midR m K c (t.val + 1)

/-- The table every device runs the pipeline with. -/
def tabs : Dev nD → (p : Fin 1) → (pcfgs (F := F) p).Adm := fun c _ => adm c

/-- The pipeline's configuration on a device. -/
abbrev cfgD : Pipeline.Cfg sig Λ₀ := cfg0 (adm (F := F) c)

/-- The windows are over the weights and the two scales; they are left in place. -/
def pdat (c : Dev nD) : Pipeline.Dat τ (Elt F) Unit ℕ UU ℕ (cfgD (F := F) c) c where
  A := fun w => m (((cfgD (F := F) c).win w).arr.view.loc (c.tc : Thread nD τ))
  after := fun w t => match w with
    | 0 => wv m c t
    | 1 => s1v m c t
    | 2 => s2v m c t
  Φ := fun t => iprop(∃ K, restR m K c t.val)
  q := fun _ => fullShare
  owed := fun t => owedN c t.val

def pdats (p : Fin 1) (c : Dev nD) : Pipeline.Dat τ (Elt F) Unit ℕ UU ℕ (Pipeline.pinD pcfgs (tabs (F := F)) c p) c := pdat m c

theorem found0 (t : Fin grid0.N) (d) : (pdat m c).before 0 t d = wv m c t := by
  refine ((pdat m c).before_in_eq_fetched 0 rfl (fun _ => rfl) (fun _ _ _ => rfl) (fun t => ?_) t d).trans ?_
  · dsimp only [pdat]; rfl
  · rfl

theorem found1 (t : Fin grid0.N) (d) : (pdat m c).before 1 t d = s1v m c t := by
  refine ((pdat m c).before_in_eq_fetched 1 rfl (fun _ => rfl) (fun _ _ _ => rfl) (fun t => ?_) t d).trans ?_
  · dsimp only [pdat]; rfl
  · rfl

theorem found2 (t : Fin grid0.N) (d) : (pdat m c).before 2 t d = s2v m c t := by
  refine ((pdat m c).before_in_eq_fetched 2 rfl (fun _ => rfl) (fun _ _ _ => rfl) (fun t => ?_) t d).trans ?_
  · dsimp only [pdat]; rfl
  · rfl

theorem phi_out (t : Fin (grid0.N + 1)) : (pdat m c).Φ t ⊢ iprop(∃ K, restR m K c t.val) := BIBase.Entails.refl

theorem phi_in (t : Fin (grid0.N + 1)) : restR m K c t.val ⊢ (pdat m c).Φ t := by
  refine BIBase.Entails.trans ?_ (BIBase.Entails.refl (P := iprop(∃ K, restR m K c t.val)))
  iintro H
  iexists K
  iexact H

theorem owes_out (t : Fin (grid0.N + 1)) : (pdat m c).owesAt () t ⊢ ow c (owedN c t.val) := by
  unfold Pipeline.Dat.owesAt Pipeline.owesWithin ow
  iintro ⟨%W, -, HO⟩
  iexists W
  iexact HO

theorem owes_in (t : Fin (grid0.N + 1)) : ow c (owedN c t.val) ⊢ (pdat m c).owesAt () t := by
  unfold Pipeline.Dat.owesAt Pipeline.owesWithin ow
  iintro ⟨%W, HO⟩
  iexists W
  isplitr
  · ipureintro; exact fun _ _ => Or.inl trivial
  iexact HO

theorem body_step (t : Fin grid0.N) :
    iprop(before m K c t.val ∗ win m c t (stage0_0 ((cfgD (F := F) c).slots t 0)) (stage0_1 ((cfgD (F := F) c).slots t 1)) (stage0_2 ((cfgD (F := F) c).slots t 2)))
      ⊢ WP c (defs₀ (F := F) .tc 0 (t, (cfgD (F := F) c).slots t)) fun _ => iprop(|={Set.univ}=> ((pdat m c).Φ t.succ ∗ (pdat m c).owesAt () t.succ
        ∗ owns (c : Thread nD τ) (stage0_0 ((cfgD (F := F) c).slots t 0)) fullShare ((pdat m c).after 0 t)
        ∗ owns (c : Thread nD τ) (stage0_1 ((cfgD (F := F) c).slots t 1)) fullShare ((pdat m c).after 1 t)
        ∗ owns (c : Thread nD τ) (stage0_2 ((cfgD (F := F) c).slots t 2)) fullShare ((pdat m c).after 2 t))) := by
  refine step m K c t _ (hstage0_0 _) _ (hstage0_1 _) _ (hstage0_2 _) _ ?_
  unfold win
  iintro H
  imod H with ⟨HA, H0, H1, H2⟩
  imodintro
  ihave HA := (after_elim m K c t) $$ HA
  icases HA with ⟨HR, HO⟩
  isplitl [HR]
  · iapply (phi_in m K c t.succ); iexact HR
  isplitl [HO]
  · iapply (owes_in m c t.succ); iexact HO
  isplitl [H0]; · iexact H0
  isplitl [H1]; · iexact H1
  iexact H2

/-- Each step does what the pipeline asks of its body. -/
theorem body : Pipeline.BodyObligation (pdat m c) (defs₀ (F := F)) 𝒱₀ () Set.univ := by
  intro t
  rw [bigSep_W0, bigSep_W0]
  simp only
  refine BIBase.Entails.trans ?_ (wp_fupd _ _ _ _ _)
  iintro ⟨HΦ, HO, ⟨%d0, H0⟩, ⟨%d1, H1⟩, ⟨%d2, H2⟩⟩
  ihave HΦ := (phi_out m c t.castSucc) $$ HΦ
  icases HΦ with ⟨%K, HΦ⟩
  ihave HO := (owes_out m c t.castSucc) $$ HO
  ihave HB := (before_intro m K c t) $$ [HΦ HO]
  · isplitl [HΦ]; · iexact HΦ
    iexact HO
  ihave HW : win m c t (stage0_0 ((cfgD (F := F) c).slots t 0)) (stage0_1 ((cfgD (F := F) c).slots t 1)) (stage0_2 ((cfgD (F := F) c).slots t 2)) $$ [H0 H1 H2]
  · unfold win
    isplitl [H0]
    · iapply (BIBase.Entails.of_eq (congrArg _ (found0 m c t d0)))
      iexact H0
    isplitl [H1]
    · iapply (BIBase.Entails.of_eq (congrArg _ (found1 m c t d1)))
      iexact H1
    · iapply (BIBase.Entails.of_eq (congrArg _ (found2 m c t d2)))
      iexact H2
  iapply (body_step m K c t) $$ [HB HW]
  isplitl [HB]; · iexact HB
  iexact HW

theorem body_loose : Pipeline.BodyObligationLoose (pdat m c) (defs₀ (F := F)) 𝒱₀ () Set.univ := (body m c).loose

end Cert.KernelIdeal.Ring
-- ==== Proof.Entry.lean ====
/- The state before the first step, put together from what the launch hands a device. -/
module

public import proofs.«01_k».proof.Proof.Body

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-! # The state before the first step, from the launch's parts -/

/-- The device's tokens, one for each duty that it performs. -/
def toks : sProp 𝕄 :=
  iprop(bigSep Finset.univ (fun k : Fin 3 => dutyTok ER (bar (at_ c k.succ)) 0 c)
    ∗ bigSep Finset.univ (fun k : Fin 3 => dutyTok ER (own (sndTo c k) kEnd) 0 c)
    ∗ bigSep Finset.univ (fun k : Fin 3 => dutyTok ER (own (sndTo c k) (kRcv c)) 0 c)
    ∗ bigSep Finset.univ (fun k : Fin 3 => dutyTok ER (own c (kSnd k)) 0 c)
    ∗ bigSep Finset.univ (fun j : Fin 8 => dutyTok ER (own c (kOut j)) 0 c)
    ∗ bigSep Finset.univ (fun r : Fin 2 => bigSep Finset.univ (fun i : Fin 2 => dutyTok ER (own c (kStg i)) r.val c)))

/-- The device's credits: what the others owe its cells. -/
def creds : sProp 𝕄 :=
  iprop(cred (tallyAt (bar c) () 3) ∗ cred (tallyAt (own c kEnd) () 3)
    ∗ bigSep Finset.univ (fun k : Fin 3 => cred (tallyAt (own c (kRcv (at_ c k.succ))) () nX)))

/-- The cells that may be credited from the start. -/
def marks : sProp 𝕄 := bigSep Finset.univ (fun d : Dev nD => reached ER (bar d) 0)

instance marks_persistent : BI.Persistent (marks (F := F)) := by unfold marks; infer_instance

/-- The device's own cells, just opened. -/
def opened : sProp 𝕄 := bigSep Finset.univ (fun k : OK => atPos ER (own c k) 0 ∅ 0)

def openMarks : sProp 𝕄 := bigSep Finset.univ (fun k : OK => reached ER (own c k) 0)

instance openMarks_persistent : BI.Persistent (openMarks (F := F) c) := by unfold openMarks; infer_instance

theorem marks_at (d : Dev nD) : marks (F := F) ⊢ reached ER (bar d) 0 :=
  bigSep_elim (Φ := fun d : Dev nD => reached ER (bar d) 0) (Finset.mem_univ d)

theorem openMarks_at (k : OK) : openMarks (F := F) c ⊢ reached ER (own c k) 0 :=
  bigSep_elim (Φ := fun k : OK => reached ER (own c k) 0) (Finset.mem_univ k)

/-- What comes to the kernel besides its buffers. -/
def gear : sProp 𝕄 :=
  iprop(marks (F := F) ∗ atPos ER (bar c) 0 ∅ 0 ∗ opened (F := F) c ∗ openMarks (F := F) c ∗ toks (F := F) c ∗ creds (F := F) c)

/-- The arrays that the kernel copies from and to. -/
def arrs : sProp 𝕄 :=
  iprop(bigSep Finset.univ (fun b : Dev nD => xP c b (xIn m c)) ∗ bigSep Finset.univ (fun j : Fin 8 => iprop(∃ f, ouP (F := F) c j f)))

/-- The kernel's own buffers, in their parts. -/
def scr : sProp 𝕄 :=
  iprop(bigSep Finset.univ (fun i : Fin 2 => iprop(∃ f, stP (F := F) c i f))
    ∗ bigSep Finset.univ (fun b : Dev nD => iprop(∃ f, x8P (F := F) c b f))
    ∗ bigSep Finset.univ (fun b : Dev nD => iprop(∃ f, rvP (F := F) c b f))
    ∗ bigSep Finset.univ (fun j : Fin 8 => iprop(∃ f, acP (F := F) c j f))
    ∗ (∃ X, owns (c : Thread nD τ) bW8 fullShare (X : S1024x1024.Idx → Elt F .fp8e5m2))
    ∗ (∃ X, owns (c : Thread nD τ) bXc fullShare (X : S1024x1024.Idx → Elt F .fp8e5m2)))

theorem give_intro (d : Dev nD) : iprop(marks (F := F) ∗ openMarks (F := F) c ∗ dutyTok ER (bar d) 0 c ∗ (∃ f, rvP (F := F) c d f)) ⊢ give m c d := by
  unfold give pay
  iintro ⟨#HM, #HO, HT, HR⟩
  isplitl [HT]; · iexact HT
  isplitl [HR]
  · isplitl [HR]; · iexact HR
    isplitr
    · iapply (openMarks_at c (kRcv d)); iexact HO
    iapply (openMarks_at c kEnd); iexact HO
  iapply (marks_at d); iexact HM

theorem stgIn_intro (i : Fin 2) : iprop(openMarks (F := F) c ∗ xP c (stgBlk c i 0) (xIn m c) ∗ dutyTok ER (own c (kStg i)) 0 c) ⊢ stgIn m c i 0 := by
  unfold stgIn
  iintro ⟨#HO, HX, HT⟩
  isplitl [HX]; · iexact HX
  isplitl [HT]; · iexact HT
  iapply (openMarks_at c (kStg i)); iexact HO

theorem sndT_intro (k : Fin 3) : iprop(openMarks (F := F) c ∗ dutyTok ER (own c (kSnd k)) 0 c ∗ dutyTok ER (own (sndTo c k) (kRcv c)) 0 c) ⊢ sndT (F := F) c k := by
  unfold sndT
  iintro ⟨#HO, HT, HR⟩
  isplitl [HT]; · iexact HT
  isplitr
  · iapply (openMarks_at c (kSnd k)); iexact HO
  iexact HR

theorem cnt_zero : ∀ j : Fin 8, cnt 0 j = 0 := by decide

theorem cols_intro : iprop(openMarks (F := F) c ∗ bigSep Finset.univ (fun j : Fin 8 => iprop((∃ f, acP (F := F) c j f) ∗ (∃ f, ouP (F := F) c j f) ∗ dutyTok ER (own c (kOut j)) 0 c)))
    ⊢ bigSep Finset.univ (fun j => colSt m c j (cnt 0 j)) := by
  refine bigSep_with_persistent fun j _ => ?_
  rw [cnt_zero j]
  unfold colSt
  rw [if_pos (by decide)]
  unfold outIn
  show iprop(_ ∗ _) ⊢ iprop((∃ f, acP (F := F) c j f) ∗ _)
  iintro ⟨#HO, HA, HU, HT⟩
  isplitl [HA]; · iexact HA
  isplitl [HU]; · iexact HU
  isplitl [HT]; · iexact HT
  iapply (openMarks_at c (kOut j)); iexact HO

theorem rcv_intro (s : Fin 4) (h : s ≠ 0) :
    iprop(cred (tallyAt (own c (kRcv (at_ c (sig_ s)))) () nX) ∗ atPos ER (own c (kRcv (at_ c (sig_ s)))) 0 ∅ 0) ⊢ rcvSt m c 0 s := by
  unfold rcvSt
  rw [if_neg h, if_neg (Nat.not_lt_zero _)]

theorem rcvs (Φ : Fin 4 → sProp 𝕄) : bigSep (Finset.univ.erase 0) Φ = iprop(Φ 1 ∗ Φ 2 ∗ Φ 3) := by
  rw [show (Finset.univ.erase (0 : Fin 4)) = {1, 2, 3} by decide, bigSep_insert (by decide), bigSep_insert (by decide), bigSep_singleton]
  rfl

theorem gather : iprop(gear (F := F) c ∗ arrs m c ∗ tabP (F := F) c ∗ scr (F := F) c) ⊢ iprop(fresh m c ∗ idle m c) := by
  unfold gear arrs scr toks creds opened
  rw [all_own, four c, fin2, four c, four c, four c, fin3 (fun k => dutyTok ER (bar (at_ c k.succ)) 0 c),
    fin3 (fun k => dutyTok ER (own (sndTo c k) (kRcv c)) 0 c), fin3 (fun k => dutyTok ER (own c (kSnd k)) 0 c),
    fin3 (fun k => cred (tallyAt (own c (kRcv (at_ c k.succ))) () nX)), fin2, fin2, fin2, fin2]
  iintro ⟨⟨#HM, Hab, ⟨HaE, ⟨HaG0, HaG1⟩, HaS, ⟨HaR, HaR1, HaR2, HaR3⟩, HaO⟩, #HO, ⟨⟨Hb0, Hb1, Hb2⟩, HtE, ⟨Hr0, Hr1, Hr2⟩, ⟨Hs0, Hs1, Hs2⟩, HtO, ⟨Hg00, Hg10⟩, ⟨Hg01, Hg11⟩⟩, HcB, HcE, ⟨Hc1, Hc2, Hc3⟩⟩,
    ⟨⟨Hx, Hx1, Hx2, Hx3⟩, Hou⟩, Htab, ⟨Hst0, Hst1⟩, ⟨H8, H81, H82, H83⟩, ⟨Hv, Hv1, Hv2, Hv3⟩, Hac, Hw, Hxc⟩
  isplitl [Hab Hb0 Hb1 Hb2 HcB HaG0 HaG1 Hr0 Hr1 Hr2 Hs0 Hs1 Hs2 Hg00 Hg10 Hg01 Hg11 Hx Hx1 Hx2 Hx3 Hst0 Hst1 H8 H81 H82 H83 Hv Hv1 Hv2 Hv3]
  · unfold fresh stgAt
    isplitl [Hb0 Hv1]
    · iapply (give_intro m c (at_ c 1))
      isplitr; · iexact HM
      isplitr; · iexact HO
      isplitl [Hb0]; · iexact Hb0
      iexact Hv1
    isplitl [Hb1 Hv2]
    · iapply (give_intro m c (at_ c 2))
      isplitr; · iexact HM
      isplitr; · iexact HO
      isplitl [Hb1]; · iexact Hb1
      iexact Hv2
    isplitl [Hb2 Hv3]
    · iapply (give_intro m c (at_ c 3))
      isplitr; · iexact HM
      isplitr; · iexact HO
      isplitl [Hb2]; · iexact Hb2
      iexact Hv3
    isplitl [HcB]; · iexact HcB
    isplitl [Hab]; · iexact Hab
    isplitl [Hg00 Hx1]
    · iapply (stgIn_intro m c 0)
      isplitr; · iexact HO
      isplitl [Hx1]; · iexact Hx1
      iexact Hg00
    isplitl [Hg10 Hx]
    · iapply (stgIn_intro m c 1)
      isplitr; · iexact HO
      isplitl [Hx]
      · iapply (BIBase.Entails.of_eq (congrArg (fun b => xP c b (xIn m c)) (show c = stgBlk c 1 0 from (at_zero c).symm)))
        iexact Hx
      iexact Hg10
    isplitl [Hst0]; · iexact Hst0
    isplitl [Hst1]; · iexact Hst1
    isplitl [HaG0]; · iexact HaG0
    isplitl [HaG1]; · iexact HaG1
    isplitl [H81]; · iexact H81
    isplitl [H8]; · iexact H8
    isplitl [H83]; · iexact H83
    isplitl [H82]; · iexact H82
    isplitl [Hv]; · iexact Hv
    isplitl [Hx3]; · iexact Hx3
    isplitl [Hx2]; · iexact Hx2
    isplitl [Hg01]; · iexact Hg01
    isplitl [Hg11]; · iexact Hg11
    isplitl [Hs0 Hr0]
    · iapply (sndT_intro c 0)
      isplitr; · iexact HO
      isplitl [Hs0]; · iexact Hs0
      iexact Hr0
    isplitl [Hs1 Hr1]
    · iapply (sndT_intro c 1)
      isplitr; · iexact HO
      isplitl [Hs1]; · iexact Hs1
      iexact Hr1
    iapply (sndT_intro c 2)
    isplitr; · iexact HO
    isplitl [Hs2]; · iexact Hs2
    iexact Hr2
  unfold idle keep
  isplitl [Htab]; · iexact Htab
  isplitl [HaS HaE HcE HtE HaO]
  · isplitl [HaS]; · iexact HaS
    isplitl [HaE]; · iexact HaE
    isplitl [HcE]; · iexact HcE
    isplitl [HtE]; · iexact HtE
    iexact HaO
  isplitl [Hw]; · iexact Hw
  isplitl [Hxc]; · iexact Hxc
  isplitl [HaR]; · iexact HaR
  isplitl [Hc1 Hc2 Hc3 HaR1 HaR2 HaR3]
  · rw [rcvs]
    isplitl [Hc1 HaR1]
    · iapply (rcv_intro m c 1 (by decide))
      isplitl [Hc1]; · iexact Hc1
      iexact HaR1
    isplitl [Hc3 HaR3]
    · iapply (rcv_intro m c 2 (by decide))
      isplitl [Hc3]; · iexact Hc3
      iexact HaR3
    iapply (rcv_intro m c 3 (by decide))
    isplitl [Hc2]; · iexact Hc2
    iexact HaR2
  iapply (cols_intro m c)
  isplitr; · iexact HO
  rw [bigSep_sep', bigSep_sep']
  isplitl [Hac]; · iexact Hac
  isplitl [Hou]; · iexact Hou
  iexact HtO

end Cert.KernelIdeal.Ring
-- ==== Proof.Bufs.lean ====
/- Whole buffers and their parts. -/
module

public import proofs.«01_k».proof.Proof.Entry

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-! # Whole buffers and their parts -/

theorem x_parts (f : S4096x1024.Idx → Elt F .f32) :
    ((c : Thread nD τ).loc main_arg0 ↦{fullShare} f : sProp 𝕄) = bigSep Finset.univ (fun b : Dev nD => xP c b f) :=
  Ring.pointsTo_blocks (ℓ := (c : Thread nD τ).loc main_arg0) rowSet row_disjoint row_cover f

theorem out_parts (f : S1024x8192.Idx → Elt F .f32) :
    ((c : Thread nD τ).loc main_v8 ↦{fullShare} f : sProp 𝕄) = bigSep Finset.univ (fun j : Fin 8 => ouP c j f) :=
  Ring.pointsTo_blocks (ℓ := (c : Thread nD τ).loc main_v8) colSet col_disjoint col_cover f

theorem stg_parts (f : S2x1024x1024.Idx → Elt F .f32) :
    ((c : Thread nD τ).loc cc0_scratch0 ↦{fullShare} f : sProp 𝕄) = bigSep Finset.univ (fun i : Fin 2 => stP c i f) :=
  Ring.pointsTo_blocks (ℓ := (c : Thread nD τ).loc cc0_scratch0) stageSet stage_disjoint stage_cover f

theorem x8_parts (f : S4x1024x1024.Idx → Elt F .fp8e5m2) :
    ((c : Thread nD τ).loc cc0_scratch1 ↦{fullShare} f : sProp 𝕄) = bigSep Finset.univ (fun b : Dev nD => x8P c b f) :=
  Ring.pointsTo_blocks (ℓ := (c : Thread nD τ).loc cc0_scratch1) slotSet slot_disjoint slot_cover f

theorem rv_parts (f : S4x1024x1024.Idx → Elt F .fp8e5m2) :
    ((c : Thread nD τ).loc cc0_scratch2 ↦{fullShare} f : sProp 𝕄) = bigSep Finset.univ (fun b : Dev nD => rvP c b f) :=
  Ring.pointsTo_blocks (ℓ := (c : Thread nD τ).loc cc0_scratch2) slotSet slot_disjoint slot_cover f

theorem ac_parts (f : S1024x8192.Idx → Elt F .f32) :
    ((c : Thread nD τ).loc cc0_scratch5 ↦{fullShare} f : sProp 𝕄) = bigSep Finset.univ (fun j : Fin 8 => acP c j f) :=
  Ring.pointsTo_blocks (ℓ := (c : Thread nD τ).loc cc0_scratch5) colSet col_disjoint col_cover f

theorem parts_some {B : Type} [Fintype B] {V : Type} (Φ : B → V → sProp 𝕄) (f : V) :
    bigSep Finset.univ (fun b => Φ b f) ⊢ bigSep Finset.univ (fun b => iprop(∃ f, Φ b f)) :=
  bigSep_mono fun b _ => by
    show (Φ b f : sProp 𝕄) ⊢ iprop(∃ f, Φ b f)
    iintro H
    iexists f
    iexact H

theorem stg_join : bigSep Finset.univ (fun i : Fin 2 => iprop(∃ f, stP (F := F) c i f))
    ⊢ iprop(∃ f : Buf (Elt F) ((c : Thread nD τ).loc cc0_scratch0), (c : Thread nD τ).loc cc0_scratch0 ↦{fullShare} f) :=
  Ring.pointsTo_blocks_join_exists (ℓ := (c : Thread nD τ).loc cc0_scratch0) stageSet stage_disjoint stage_cover (fun _ => Classical.arbitrary _)

theorem x8_join : bigSep Finset.univ (fun b : Dev nD => iprop(∃ f, x8P (F := F) c b f))
    ⊢ iprop(∃ f : Buf (Elt F) ((c : Thread nD τ).loc cc0_scratch1), (c : Thread nD τ).loc cc0_scratch1 ↦{fullShare} f) :=
  Ring.pointsTo_blocks_join_exists (ℓ := (c : Thread nD τ).loc cc0_scratch1) slotSet slot_disjoint slot_cover (fun _ => Classical.arbitrary _)

/-- Holding a whole buffer, through its view and as it is. -/
theorem whole_in (b : Ref sig .tc) :
    iprop(∃ f : Buf (Elt F) ((c : Thread nD τ).loc b), (c : Thread nD τ).loc b ↦{fullShare} f)
      ⊢ (iprop(∃ X, owns (c : Thread nD τ) (Memref.whole b) fullShare X) : sProp 𝕄) := by
  iintro ⟨%f, H⟩
  iexists f
  rw [owns_whole_eq]
  iexists f
  isplitr
  · ipureintro; rfl
  iexact H

theorem whole_out (b : Ref sig .tc) :
    (iprop(∃ X, owns (c : Thread nD τ) (Memref.whole b) fullShare X) : sProp 𝕄)
      ⊢ iprop(∃ f : Buf (Elt F) ((c : Thread nD τ).loc b), (c : Thread nD τ).loc b ↦{fullShare} f) := by
  iintro ⟨%X, H⟩
  ihave H := (BIBase.Entails.of_eq (owns_whole_eq (c : Thread nD τ) b fullShare X)) $$ H
  icases H with ⟨%f, -, H⟩
  iexists f
  iexact H

/-- The kernel's own buffers, whole. -/
abbrev scopedRest : sProp 𝕄 := Pipeline.scopedRest (Ix := Unit) (Name := ℕ) (U := UU) (Lvl := ℕ) (Val := Elt F) spec0 c

theorem scr_in : scopedRest (F := F) c ⊢ scr (F := F) c := by
  unfold scr
  rw [scopedRest, scopedRest0_eq]
  iintro ⟨⟨%f0, H0⟩, ⟨%f1, H1⟩, ⟨%f2, H2⟩, H3, H4, ⟨%f5, H5⟩⟩
  isplitl [H0]
  · ihave H := (BIBase.Entails.of_eq (stg_parts c f0)) $$ H0
    iapply (parts_some (fun i : Fin 2 => stP (F := F) c i) f0)
    iexact H
  isplitl [H1]
  · ihave H := (BIBase.Entails.of_eq (x8_parts c f1)) $$ H1
    iapply (parts_some (fun b : Dev nD => x8P (F := F) c b) f1)
    iexact H
  isplitl [H2]
  · ihave H := (BIBase.Entails.of_eq (rv_parts c f2)) $$ H2
    iapply (parts_some (fun b : Dev nD => rvP (F := F) c b) f2)
    iexact H
  isplitl [H5]
  · ihave H := (BIBase.Entails.of_eq (ac_parts c f5)) $$ H5
    iapply (parts_some (fun j : Fin 8 => acP (F := F) c j) f5)
    iexact H
  isplitl [H4]
  · iapply (whole_in c cc0_scratch4)
    iexact H4
  iapply (whole_in c cc0_scratch3)
  iexact H3

/-- What the kernel returns with, its own buffers apart. -/
def ret : sProp 𝕄 :=
  iprop(semVal (bar c) 0 ∗ ((c : Thread nD τ).loc main_arg0 ↦{fullShare} xIn m c) ∗ ((c : Thread nD τ).loc main_v8 ↦{fullShare} outAll m c))

theorem done_out : doneR m c ⊢ iprop(ret m c ∗ bigSep Finset.univ (fun k : OK => semVal (own c k) 0) ∗ scopedRest (F := F) c) := by
  unfold doneR ret
  rw [scopedRest, scopedRest0_eq, x_parts, out_parts, ← rv_parts, ← ac_parts]
  iintro ⟨-, Hs, Hb, Hx, Ho, H0, H1, H2, H5, H4, H3⟩
  isplitl [Hb Hx Ho]
  · isplitl [Hb]; · iexact Hb
    isplitl [Hx]; · iexact Hx
    iexact Ho
  isplitl [Hs]; · iexact Hs
  isplitl [H0]
  · iapply (stg_join c); iexact H0
  isplitl [H1]
  · iapply (x8_join c); iexact H1
  isplitl [H2]
  · iexists (recvAll m c); iexact H2
  isplitl [H3]
  · iapply (whole_out c cc0_scratch3); iexact H3
  isplitl [H4]
  · iapply (whole_out c cc0_scratch4); iexact H4
  iexists (outAll m c); iexact H5

end Cert.KernelIdeal.Ring
-- ==== Proof.Region.lean ====
/- The kernel's region: what it is entered with and what it returns. -/
module

public import proofs.«01_k».proof.Proof.Table
public import proofs.«01_k».proof.Proof.Bufs

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-! # The kernel's region -/

/-- What a device holds besides its buffers when the region is entered. -/
def gear0 : sProp 𝕄 :=
  iprop(∃ K, recs m K ∗ marks (F := F) ∗ atPos ER (bar c) 0 ∅ 0 ∗ bigSep Finset.univ (fun k : OK => openTok ER (own c k))
    ∗ toks (F := F) c ∗ creds (F := F) c)

/-- The device's own semaphores, unused. -/
abbrev sems0 : sProp 𝕄 :=
  Pipeline.ownSems0 (Ix := Unit) (Name := ℕ) (U := UU) (Lvl := ℕ) (Val := Elt F) (τ := τ) osem c

theorem open_one (k : OK) : iprop(recs m K ∗ (openTok ER (own c k) ∗ semVal (own c k) 0))
    ⊢ iprop(|={Set.univ}=> (atPos ER (own c k) 0 ∅ 0 ∗ reached ER (own c k) 0)) := by
  iintro ⟨#HI, Ho, Hs⟩
  imod (Rounds.cell_open ER (Rd m) (g := own c k) (Set.mem_univ (K (c, some k)))) $$ [Ho Hs] with ⟨Ha, #Hr⟩
  · isplitr
    · iapply (recs_own m K c k); iexact HI
    isplitl [Ho]; · iexact Ho
    iexact Hs
  imodintro
  isplitl [Ha]; · iexact Ha
  iexact Hr

/-- The device opens its own cells. -/
theorem open_all : iprop(recs m K ∗ bigSep Finset.univ (fun k : OK => openTok ER (own c k)) ∗ sems0 (F := F) c)
    ⊢ iprop(|={Set.univ}=> (opened (F := F) c ∗ openMarks (F := F) c)) := by
  have h : iprop(recs m K ∗ bigSep Finset.univ (fun k : OK => iprop(openTok ER (own c k) ∗ semVal (own c k) 0)))
      ⊢ iprop(|={Set.univ}=> (opened (F := F) c ∗ openMarks (F := F) c)) := by
    refine (bigSep_with_persistent fun k _ => open_one m K c k).trans ?_
    refine (bigSep_fupd _ _).trans ?_
    unfold opened openMarks
    rw [bigSep_sep']
  refine BIBase.Entails.trans ?_ h
  rw [bigSep_sep']
  iintro ⟨HI, Ho, Hs⟩
  isplitl [HI]; · iexact HI
  isplitl [Ho]; · iexact Ho
  unfold sems0 Pipeline.ownSems0
  iexact Hs

/-- What the kernel's invariant starts from, its own buffers and the table apart. -/
def enter : sProp 𝕄 := iprop(∃ K, recs m K ∗ levAts L lv ∗ gear (F := F) c ∗ arrs m c)

theorem enter_intro (f : S1024x8192.Idx → Elt F .f32) :
    iprop(gear0 m c ∗ sems0 (F := F) c ∗ levAts L lv ∗ ((c : Thread nD τ).loc main_arg0 ↦{fullShare} xIn m c) ∗ ((c : Thread nD τ).loc main_v8 ↦{fullShare} f))
      ⊢ iprop(|={Set.univ}=> enter m c) := by
  unfold gear0
  rw [x_parts, out_parts]
  iintro ⟨⟨%K, #HI, #HM, Ha, Ho, Ht, Hc⟩, Hs, #HL, Hx, Hv⟩
  imod (open_all m K c) $$ [Ho Hs] with ⟨HA, #HO⟩
  · isplitr; · iexact HI
    isplitl [Ho]; · iexact Ho
    iexact Hs
  imodintro
  unfold enter gear arrs
  iexists K
  isplitr; · iexact HI
  isplitr; · iexact HL
  isplitl [Ha HA Ht Hc]
  · isplitr; · iexact HM
    isplitl [Ha]; · iexact Ha
    isplitl [HA]; · iexact HA
    isplitr; · iexact HO
    isplitl [Ht]; · iexact Ht
    iexact Hc
  isplitl [Hx]; · iexact Hx
  iapply (parts_some (fun j : Fin 8 => ouP (F := F) c j) f)
  iexact Hv

/-- The table's buffer, as the pipeline holds it. -/
abbrev preTab : sProp 𝕄 := Pipeline.prefHeld (Ix := Unit) (Name := ℕ) (U := UU) (Lvl := ℕ) (τ := τ) pre0 c (fun _ => fullShare) (tabPf (F := F) c)

theorem preTab_eq : preTab (F := F) c = tabP (F := F) c := by
  unfold preTab Pipeline.prefHeld
  rw [show (Finset.univ : Finset (Fin pre0.K)) = {0} from rfl, bigSep_singleton]
  rfl

theorem start_state : iprop(enter m c ∗ preTab (F := F) c ∗ scopedRest (F := F) c) ⊢ iprop(∃ K, restR m K c 0) := by
  rw [preTab_eq]
  unfold enter
  iintro ⟨⟨%K, #HI, #HL, HG, HA⟩, HT, HS⟩
  iexists K
  iapply (BIBase.Entails.of_eq (show iprop(recs m K ∗ levAts L lv ∗ fresh m c ∗ idle m c) = restR m K c 0 by
    unfold restR; rw [if_pos rfl]))
  isplitr; · iexact HI
  isplitr; · iexact HL
  iapply (gather m c)
  isplitl [HG]; · iexact HG
  isplitl [HA]; · iexact HA
  isplitl [HT]; · iexact HT
  iapply (scr_in c); iexact HS

theorem end_state : iprop(∃ K, restR m K c 32) ⊢ iprop(ret m c ∗ sems0 (F := F) c ∗ scopedRest (F := F) c) := by
  iintro ⟨%K, H⟩
  iapply (done_out m c)
  iapply (BIBase.Entails.of_eq (show restR m K c 32 = doneR m c by unfold restR; rw [if_neg (by decide), if_pos rfl]))
  iexact H

/-! ### The unscoped buffers at entry -/

theorem V2_arg (r : Ref sig .tc) (h : r ∉ hostOps0_W) (h' : r ∉ hostOps0_1_W) : V2 m c r = m ((c : Thread nD τ).loc r) :=
  (V2_of m c r h').trans ((V1_of m c r h).trans rfl)

theorem share_full (w : Fin 3) : (pdat m c).share w = fullShare := by
  unfold Pipeline.Dat.share
  exact ite_self _

theorem V2_arrs : ∀ w : Fin 3, (pdat m c).A w = V2 m c (Pipeline.arrRef spec0 w)
  | 0 => (V2_arg m c main_arg1 (by decide) (by decide)).symm
  | 1 => (V2_arg m c main_arg2 (by decide) (by decide)).symm
  | 2 => (V2_arg m c main_arg3 (by decide) (by decide)).symm
  | ⟨_ + 3, h⟩ => absurd h (Nat.not_lt.2 (Nat.le_add_left _ _))

/-- The unscoped buffers that are neither windows' arrays nor the table. -/
abbrev other : Finset (Ref sig .tc) :=
  ((Finset.univ.filter fun b : Ref sig .tc => ¬ b.isScoped) \ Finset.univ.image (Pipeline.arrRef spec0)) \ Finset.univ.image pre0.ref

theorem arg0_mem : main_arg0 ∈ other := by decide
theorem v8_mem : main_v8 ∈ other.erase main_arg0 := by decide

theorem buffers : (unscopedBufs c (fun b => V2 m c b) : sProp 𝕄)
    ⊢ iprop((pdat m c).arrays ((pdat m c).arrAt · 0) ∗ preTab (F := F) c ∗ ((c : Thread nD τ).loc main_arg0 ↦{fullShare} xIn m c)
        ∗ ((c : Thread nD τ).loc main_v8 ↦{fullShare} (V2 m c main_v8 : S1024x8192.Idx → Elt F .f32))) := by
  refine (Pipeline.PerCore.arrays_of_unscopedBufs (pcfgs (F := F)) tabs (pdats m) (p := 0) winFacts0 arr_whole0 c (share_full m c)
    (fun b => V2 m c b) (V2_arrs m c)).trans ?_
  refine BIClass.sep_mono BIBase.Entails.refl ?_
  refine (BIBase.Entails.of_eq (Pipeline.unscopedRest_split preFacts0 c (fun b => V2 m c b))).trans ?_
  refine BIClass.sep_mono (BIBase.Entails.of_eq ?_) ?_
  · unfold preTab
    congr 1
    funext k
    match k with
    | 0 => exact table_read m c
    | ⟨_ + 1, h⟩ => exact absurd h (Nat.not_lt.2 (Nat.le_add_left _ _))
  · unfold Pipeline.unscopedRestP
    rw [take arg0_mem, take v8_mem]
    beta_reduce
    rw [V2_arg m c main_arg0 (by decide) (by decide)]
    iintro ⟨Hx, Ho, -⟩
    isplitl [Hx]; · iexact Hx
    iexact Ho

/-! ### The region -/

theorem owedN_above (t : ℕ) : Above 0 (owedN c t) := by
  unfold owedN
  split
  · exact above_O₀ c
  · split
    · exact above_zero 0
    · exact (above_oEnd c).mono (by decide)

theorem lv_stage : ∀ (w : Fin 3) (s : Fin (spec0 w).nbuf), lv ((c : Thread nD τ), .dma ((spec0 w).sem s)) () ≤ 0 := by
  have h : ∀ (w : Fin 3) (s : Fin (spec0 w).nbuf), lvl (key (.dma ((spec0 w).sem s))) ≤ 0 := by decide
  exact h

theorem waits : levAts L lv ⊢ (Pipeline.PerCore.cellsWaits (Pipeline.pinD pcfgs (tabs (F := F))) (pdats m) () 0 c : sProp 𝕄) :=
  Pipeline.PerCore.cellsWaits_intro _ (pdats m) () 0 c fun w s t =>
    mayWait c (.dma ((spec0 w).sem s)) (lv_stage c w s) (owedN_above c t.val)

/-- The arrays of the windows after the run. -/
abbrev arrsEnd : sProp 𝕄 := (pdat m c).arrays ((pdat m c).arrAt · grid0.N)

abbrev entryState : sProp 𝕄 :=
  iprop(StableHlo.held (c : Thread nD τ) (Pipeline.ucRefs τ sig) (V2 m c) ∗ gear0 m c ∗ ow c (O₀ c))

abbrev exitState : sProp 𝕄 := iprop((arrsEnd m c ∗ ret m c) ∗ ow c 0)

theorem osemFacts : Pipeline.OwnSemFacts spec0 osem where
  isScoped := by
    rintro (u | i | i | i | i)
    · revert u; decide
    all_goals revert i; decide
  inj := osem_inj
  disj := by
    rintro (u | i | i | i | i)
    · revert u; decide
    all_goals revert i; decide

theorem region_in : iprop(entryState m c ∗ sems0 (F := F) c ∗ levAts L lv)
    ⊢ iprop(|={Set.univ}=> ((pdat m c).arrays ((pdat m c).arrAt · 0) ∗ preTab (F := F) c ∗ (pdat m c).owesAt () 0 ∗ enter m c ∗ emp)) := by
  unfold entryState
  rw [← Pipeline.unscopedBufs_held]
  iintro ⟨⟨Hb, HG, HO⟩, Hs, HL⟩
  ihave HB := (buffers m c) $$ Hb
  icases HB with ⟨HA, HT, Hx, Hv⟩
  imod (enter_intro m c (V2 m c main_v8)) $$ [HG Hs HL Hx Hv] with HE
  · isplitl [HG]; · iexact HG
    isplitl [Hs]; · iexact Hs
    isplitl [HL]; · iexact HL
    isplitl [Hx]; · iexact Hx
    iexact Hv
  imodintro
  isplitl [HA]; · iexact HA
  isplitl [HT]; · iexact HT
  isplitl [HO]
  · iapply (owes_in m c 0)
    iapply (BIBase.Entails.of_eq (congrArg (ow (F := F) c) (show O₀ c = owedN c 0 from (if_pos rfl).symm)))
    iexact HO
  isplitl [HE]; · iexact HE
  iempintro

theorem region_out : iprop(arrsEnd m c ∗ (pdat m c).owesAt () (Fin.last grid0.N) ∗ ret m c ∗ emp)
    ⊢ iprop(|={Set.univ}=> exitState m c) := by
  iintro ⟨HA, HO, HR, -⟩
  imodintro
  isplitl [HA HR]
  · isplitl [HA]; · iexact HA
    iexact HR
  iapply (BIBase.Entails.of_eq (congrArg (ow (F := F) c) (show owedN c 32 = 0 from (if_neg (by decide)).trans (if_pos rfl))))
  iapply (owes_out m c (Fin.last grid0.N))
  iexact HO

theorem invariant_in : iprop(enter m c ∗ preTab (F := F) c ∗ scopedRest (F := F) c) ⊢ (pdat m c).Φ 0 := start_state m c

theorem invariant_out : (pdat m c).Φ (Fin.last grid0.N) ⊢ iprop(ret m c ∗ sems0 (F := F) c ∗ scopedRest (F := F) c) :=
  (phi_out m c (Fin.last grid0.N)).trans (end_state m c)

def region : Pipeline.PerCore.RegionSeg (pcfgs (F := F)) tabs (pdats m) () defs₀ 𝒱₀ L lv 0 where
  win := winFacts0.to₀
  block_pos := block_pos0
  stage_whole := stage_whole0
  K := OK
  osem := osem
  ho := osemFacts
  hbody := body_loose m
  hwaits := waits m
  pre := entryState m
  post := exitState m
  X := enter m
  Y := ret m
  Z _ := iprop(emp)
  hentry := region_in m
  hin := invariant_in m
  hout := invariant_out m
  hexit := region_out m

end Cert.KernelIdeal.Ring
-- ==== Proof.Deal.lean ====
/- The launch: the cells' names, the duties' tokens, the credits. -/
module

public import proofs.«01_k».proof.Proof.Region

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-! # The launch: cells, tokens, credits -/

/-- The entry barriers, funded with their counters. -/
noncomputable def barEmb : Dev nD ↪ GSem nD τ sig := ⟨fun c => bar c, fun _ _ h => (cell_inj h).1⟩
/-- The cells of the kernel's own semaphores, which the kernel opens. -/
noncomputable def ownEmb : Dev nD × OK ↪ GSem nD τ sig :=
  ⟨fun p => own p.1 p.2, fun _ _ h => Prod.ext (cell_inj h).1 (Option.some.inj (cell_inj h).2)⟩

abbrev barCells : Finset (GSem nD τ sig) := Finset.univ.map barEmb
abbrev ownCells : Finset (GSem nD τ sig) := Finset.univ.map ownEmb

theorem disjoint_cells : Disjoint barCells ownCells := by
  rw [Finset.disjoint_left]
  rintro g h h'
  obtain ⟨c, -, rfl⟩ := Finset.mem_map.mp h
  obtain ⟨p, -, e⟩ := Finset.mem_map.mp h'
  exact Option.some_ne_none _ (cell_inj e).2

theorem cell_mem (d : Dev nD) : ∀ k : Option OK, cell d k ∈ barCells ∪ ownCells
  | none => Finset.mem_union_left _ (Finset.mem_map_of_mem barEmb (Finset.mem_univ d))
  | some k => Finset.mem_union_right _ (Finset.mem_map_of_mem ownEmb (Finset.mem_univ (d, k)))

/-- A device's duties: entry barriers, exit barriers, blocks sent, their departures, columns copied out, blocks fetched. -/
abbrev TK : Type := Fin 3 ⊕ Fin 3 ⊕ Fin 3 ⊕ Fin 3 ⊕ Fin 8 ⊕ (Fin 2 × Fin 2)

def tokAt (c : Dev nD) : TK → (Dev nD × Option OK) × ℕ
  | .inl k => ((at_ c k.succ, none), 0)
  | .inr (.inl k) => ((sndTo c k, some kEnd), 0)
  | .inr (.inr (.inl k)) => ((sndTo c k, some (kRcv c)), 0)
  | .inr (.inr (.inr (.inl k))) => ((c, some (kSnd k)), 0)
  | .inr (.inr (.inr (.inr (.inl j)))) => ((c, some (kOut j)), 0)
  | .inr (.inr (.inr (.inr (.inr p)))) => ((c, some (kStg p.2)), p.1.val)

theorem at_inj (c : Dev nD) : ∀ {k k' : Fin 3}, at_ c k.succ = at_ c k'.succ → k = k' := by
  revert c; decide

theorem tokAt_inj (c : Dev nD) : Function.Injective (tokAt c) := by
  rintro (k | k | k | k | k | k) (k' | k' | k' | k' | k' | k') h <;>
    simp only [tokAt, Prod.mk.injEq, reduceCtorEq, and_false, false_and, Option.some.injEq, Sum.inr.injEq, Sum.inl.injEq, true_and, and_true] at h
  · rw [at_inj c h]
  · rw [at_inj c h]
  · rw [at_inj c h]
  · rw [h]
  · rw [h]
  · rw [Prod.ext (Fin.ext h.2) h.1]

/-- Every duty of round `r`, and who performs it. -/
noncomputable def tokEmb : Dev nD × TK ↪ GSem nD τ sig × ℕ × Dev nD where
  toFun p := (cell (tokAt p.1 p.2).1.1 (tokAt p.1 p.2).1.2, (tokAt p.1 p.2).2, p.1)
  inj' := by
    rintro ⟨c, t⟩ ⟨c', t'⟩ h
    have hc : c = c' := congrArg (fun x : GSem nD τ sig × ℕ × Dev nD => x.2.2) h
    subst hc
    have h1 := cell_inj (congrArg (fun x : GSem nD τ sig × ℕ × Dev nD => x.1) h)
    have h2 : (tokAt c t).2 = (tokAt c t').2 := congrArg (fun x : GSem nD τ sig × ℕ × Dev nD => x.2.1) h
    exact congrArg (Prod.mk c) (tokAt_inj c (Prod.ext (Prod.ext h1.1 h1.2) h2))

theorem tokEmb_apply (c : Dev nD) (t : TK) : tokEmb (c, t) = (cell (tokAt c t).1.1 (tokAt c t).1.2, (tokAt c t).2, c) := rfl

abbrev allToks : Finset (GSem nD τ sig × ℕ × Dev nD) := Finset.univ.map tokEmb

/-- The token of a duty. -/
def tokP (x : (Dev nD × Option OK) × ℕ) (c : Dev nD) : sProp 𝕄 := dutyTok ER (cell x.1.1 x.1.2) x.2 c

theorem toks_fold : bigSep Finset.univ (fun t : TK => tokP (F := F) (tokAt c t) c) = toks (F := F) c := by
  rw [bigSep_univ_sum, bigSep_univ_sum, bigSep_univ_sum, bigSep_univ_sum, bigSep_univ_sum, bigSep_univ_prod]
  simp only [tokAt]
  unfold tokP toks
  rfl

theorem toks_eq : bigSep allToks (fun x => (dutyTok ER x.1 x.2.1 x.2.2 : sProp 𝕄)) = bigSep Finset.univ (fun c : Dev nD => toks (F := F) c) := by
  rw [bigSep_map, bigSep_univ_prod]
  refine bigSep_congr fun c _ => ?_
  rw [← toks_fold]
  refine bigSep_congr fun t _ => ?_
  unfold tokP
  exact congrArg (fun x : GSem nD τ sig × ℕ × Dev nD => (dutyTok ER x.1 x.2.1 x.2.2 : sProp 𝕄)) (tokEmb_apply c t)

/-! ### The credits -/

theorem tally_cell (d c : Dev nD) (k k' : Option OK) (a : ℕ) :
    (tallyAt (cell d k) () a : CellTallies nD τ sig Unit) (cell c k') () = if c = d ∧ k' = k then a else 0 := by
  rw [tallyAt_apply]
  refine if_congr ⟨fun h => cell_inj h.1, fun h => ⟨by rw [h.1, h.2], rfl⟩⟩ rfl rfl

theorem owed_bar (d c : Dev nD) : O₀ d (bar c) ()
    = (if c = at_ d 3 then 1 else 0) + (if c = at_ d 2 then 1 else 0) + (if c = at_ d 1 then 1 else 0) := by
  unfold O₀ oSnd oEnd
  simp only [Pi.add_apply, Finsupp.add_apply, tally_cell, reduceCtorEq, and_false, and_true, if_false, Nat.zero_add]

theorem owed_end (d c : Dev nD) : O₀ d (own c kEnd) ()
    = (if c = at_ d 3 then 1 else 0) + (if c = at_ d 2 then 1 else 0) + (if c = at_ d 1 then 1 else 0) := by
  unfold O₀ oSnd oEnd
  simp only [Pi.add_apply, Finsupp.add_apply, tally_cell, reduceCtorEq, Option.some.injEq, and_false, and_true, if_false, Nat.add_zero]

theorem owed_rcv (d c b : Dev nD) : O₀ d (own c (kRcv b)) ()
    = nX * ((if c = at_ d 2 ∧ b = d then 1 else 0) + (if c = at_ d 3 ∧ b = d then 1 else 0) + (if c = at_ d 1 ∧ b = d then 1 else 0)) := by
  unfold O₀ oSnd oEnd
  simp only [Pi.add_apply, Finsupp.add_apply, tally_cell, reduceCtorEq, Option.some.injEq, Sum.inr.injEq, Sum.inl.injEq, and_false, if_false, Nat.zero_add, Nat.add_zero,
    mul_add, mul_ite, mul_one, mul_zero]

theorem three_of : ∀ c : Dev nD, (∑ d : Dev nD, ((if c = at_ d 3 then 1 else 0) + (if c = at_ d 2 then 1 else 0) + (if c = at_ d 1 then 1 else 0))) = 3 := by
  decide

theorem once : ∀ (c : Dev nD) (k : Fin 3), (∑ d : Dev nD, ((if c = at_ d 2 ∧ at_ c k.succ = d then 1 else 0)
    + (if c = at_ d 3 ∧ at_ c k.succ = d then 1 else 0) + (if c = at_ d 1 ∧ at_ c k.succ = d then 1 else 0))) = 1 := by
  decide

theorem credit_of {g : GSem nD τ sig} {a : ℕ} (h : ∑ d : Dev nD, O₀ d g () = a) :
    tallyOn g (launchCredit (Pipeline.owing O₀) 0 g) = (tallyAt g () a : CellTallies nD τ sig Unit) := by
  unfold tallyAt
  refine congrArg _ (Finsupp.ext fun u => ?_)
  cases u
  rw [Pipeline.launchCredit_owing, Finsupp.single_eq_same, h]

theorem credit_bar : tallyOn (bar c) (launchCredit (Pipeline.owing O₀) 0 (bar c)) = (tallyAt (bar c) () 3 : CellTallies nD τ sig Unit) :=
  credit_of ((Finset.sum_congr rfl fun d _ => owed_bar d c).trans (three_of c))

theorem credit_end : tallyOn (own c kEnd) (launchCredit (Pipeline.owing O₀) 0 (own c kEnd)) = (tallyAt (own c kEnd) () 3 : CellTallies nD τ sig Unit) :=
  credit_of ((Finset.sum_congr rfl fun d _ => owed_end d c).trans (three_of c))

theorem credit_rcv (k : Fin 3) : tallyOn (own c (kRcv (at_ c k.succ))) (launchCredit (Pipeline.owing O₀) 0 (own c (kRcv (at_ c k.succ))))
    = (tallyAt (own c (kRcv (at_ c k.succ))) () nX : CellTallies nD τ sig Unit) :=
  credit_of ((Finset.sum_congr rfl fun d _ => owed_rcv d c (at_ c k.succ)).trans (by rw [← Finset.mul_sum, once, mul_one]))

/-- The credited semaphores of a device. -/
noncomputable def crdEmb (c : Dev nD) : Unit ⊕ Unit ⊕ Fin 3 ↪ SemLoc sig where
  toFun | .inl _ => loc none
        | .inr (.inl _) => loc (some kEnd)
        | .inr (.inr k) => loc (some (kRcv (at_ c k.succ)))
  inj' := by
    rintro (k | k | k) (k' | k' | k') h <;> have h := loc_inj h <;>
      simp only [reduceCtorEq, Option.some.injEq, Sum.inr.injEq, Sum.inl.injEq] at h ⊢
    exact at_inj c h

theorem bigSep_unit (Φ : Unit → sProp 𝕄) : bigSep Finset.univ Φ = Φ () :=
  bigSep_singleton (i := ())

theorem creds_intro : (Pipeline.launchCred O₀ c : sProp 𝕄) ⊢ creds (F := F) c := by
  unfold Pipeline.launchCred creds
  have h : bigSep Finset.univ (fun k : Fin 3 => (cred (tallyOn (own c (kRcv (at_ c k.succ)))
        (launchCredit (Pipeline.owing O₀) 0 (own c (kRcv (at_ c k.succ))))) : sProp 𝕄))
      = bigSep Finset.univ (fun k : Fin 3 => cred (tallyAt (own c (kRcv (at_ c k.succ))) () nX)) :=
    bigSep_congr fun k _ => congrArg cred (credit_rcv c k)
  refine (bigSep_subset (Finset.subset_univ (Finset.univ.map (crdEmb c)))).trans ?_
  rw [bigSep_map, bigSep_univ_sum, bigSep_univ_sum, bigSep_unit, bigSep_unit, ← credit_bar, ← credit_end, ← h]
  exact BI.Entails.refl _

theorem zero_bar : (unscopedSems0 c : sProp 𝕄) ⊢ semVal (bar c) 0 :=
  bigSep_elim (Φ := fun sm : SemLoc sig => semVal ((c : Thread nD τ), sm) 0) (i := loc none) (by decide)

/-! ### The protocol's share of the launch -/

/-- A resource, all of it with one device. -/
def onDev (c₀ : Dev nD) (X : sProp 𝕄) (c : Dev nD) : sProp 𝕄 := if c = c₀ then X else iprop(emp)

theorem onDev_all (c₀ : Dev nD) (X : sProp 𝕄) : bigSep Finset.univ (onDev c₀ X) ⊢ X := by
  refine (bigSep_elim (Finset.mem_univ c₀)).trans ?_
  unfold onDev; rw [if_pos rfl]; exact BI.Entails.refl _

theorem onDev_intro (X : sProp 𝕄) : X ⊢ bigSep Finset.univ (onDev 0 X) := by
  rw [bigSep_univ_at _ (0 : Dev nD), bigSep_congr (s := Finset.univ.erase (0 : Dev nD)) (Ψ := fun _ => (BI.emp : sProp 𝕄))
    fun c hc => by unfold onDev; rw [if_neg (Finset.ne_of_mem_erase hc)]; rfl, BI.bigSep_emp_const]
  iintro H
  isplitl [H]
  · unfold onDev; rw [if_pos rfl]; iexact H
  iempintro

abbrev lot : sProp 𝕄 := BI.own (ER (launchOf barCells ownCells allToks))

abbrev dealt (c : Dev nD) : sProp 𝕄 :=
  iprop(atPos ER (bar c) 0 ∅ 0 ∗ bigSep Finset.univ (fun k : OK => openTok ER (own c k)) ∗ toks (F := F) c)

theorem gear0_intro : iprop((recs m K ∗ marks (F := F)) ∗ dealt (F := F) c ∗ creds (F := F) c) ⊢ gear0 m c := by
  unfold gear0
  iintro ⟨⟨#HI, #HM⟩, ⟨Ha, Ho, Ht⟩, Hc⟩
  iexists K
  isplitr; · iexact HI
  isplitr; · iexact HM
  isplitl [Ha]; · iexact Ha
  isplitl [Ho]; · iexact Ho
  isplitl [Ht]; · iexact Ht
  iexact Hc

theorem recs_intro (κ : GSem nD τ sig → ℕ) :
    bigSep (barCells ∪ ownCells) (fun g => (cellInv ER (Rd m) (κ g) g : sProp 𝕄)) ⊢ recs m (fun p => κ (cell p.1 p.2)) :=
  BI.bigSep_intro_persistent fun p _ => bigSep_elim (Φ := fun g => (cellInv ER (Rd m) (κ g) g : sProp 𝕄)) (cell_mem p.1 p.2)

theorem deal : iprop(bigSep Finset.univ (fun c : Dev nD => (semVal (bar c) 0 : sProp 𝕄)) ∗ lot (F := F))
    ⊢ iprop(|={Set.univ}=> ∃ K, (recs m K ∗ marks (F := F)) ∗ bigSep Finset.univ (fun c : Dev nD => dealt (F := F) c)) := by
  have hv : bigSep Finset.univ (fun c : Dev nD => (semVal (bar c) 0 : sProp 𝕄)) = bigSep barCells (fun g => (semVal g 0 : sProp 𝕄)) :=
    (bigSep_map (s := Finset.univ) barEmb (Φ := fun g : GSem nD τ sig => (semVal g 0 : sProp 𝕄))).symm
  have hr : bigSep barCells (fun g => (reached ER g 0 : sProp 𝕄)) = marks (F := F) :=
    bigSep_map (s := Finset.univ) barEmb (Φ := fun g : GSem nD τ sig => (reached ER g 0 : sProp 𝕄))
  have ha : bigSep barCells (fun g => (atPos ER g 0 ∅ 0 : sProp 𝕄)) = bigSep Finset.univ (fun c : Dev nD => (atPos ER (bar c) 0 ∅ 0 : sProp 𝕄)) :=
    bigSep_map (s := Finset.univ) barEmb (Φ := fun g : GSem nD τ sig => (atPos ER g 0 ∅ 0 : sProp 𝕄))
  have ho : bigSep ownCells (fun g => (openTok ER g : sProp 𝕄))
      = bigSep Finset.univ (fun c : Dev nD => bigSep Finset.univ (fun k : OK => (openTok ER (own c k) : sProp 𝕄))) := by
    rw [bigSep_map, bigSep_univ_prod]; rfl
  rw [hv]
  unfold dealt
  rw [bigSep_sep', bigSep_sep', ← ha, ← ho, ← toks_eq, ← hr]
  iintro H
  imod (Rounds.fund_launch ER (Rd m) disjoint_cells (fun g _ h => h) allToks) $$ H with ⟨%κ, -, HI, HR, HA, HO, HT⟩
  imodintro
  iexists (fun p : Dev nD × Option OK => κ (cell p.1 p.2))
  isplitl [HI HR]
  · isplitl [HI]
    · iapply (recs_intro m κ); iexact HI
    iexact HR
  isplitl [HA]; · iexact HA
  isplitl [HO]; · iexact HO
  iexact HT

end Cert.KernelIdeal.Ring
-- ==== Proof.Run.lean ====
/- The run of the whole program. -/
module

public import proofs.«01_k».proof.Proof.Deal

@[expose] public section

set_option maxHeartbeats 400000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

variable (ρ : Dev nD → PrngReg)

/-! # The run of the program -/

theorem specDistinct : Pipeline.SpecSemsDistinct spec0 := Pipeline.specSemsDistinct_of_nodup _ (semsDistinct 0)

/-- No two staging cells are one. -/
theorem staging_inj : Function.Injective (Pipeline.PerCore.cellOf (nD := nD) (τ := τ) (Pipeline.pinD (pcfgs (F := F)) tabs)) :=
  Pipeline.PerCore.cellOf_injective _ (fun _ p => match p with | 0 => specDistinct) (fun _ _ _ h => absurd (Subsingleton.elim _ _) h)

/-- What rides along the host operations. -/
def rest (_ : Fin 2) (c : Dev nD) : sProp 𝕄 := iprop(gear0 m c ∗ ow c (O₀ c))

def segsAt (c : Dev nD) : List (Pipeline.PerCore.Seg (pcfgs (F := F)) tabs (pdats m) () defs₀ 𝒱₀ L lv) :=
  [.host (seg0 m 𝒱₀ L lv (rest m) c), .host (seg1 m 𝒱₀ L lv (rest m)), .region (region m)]

/-- The launch's elements. -/
def u₀ : UU :=
  (initOf (Pipeline.PerCore.cells (Pipeline.pinD (pcfgs (F := F)) tabs) staging_inj) (Pipeline.PerCore.launchToks (Pipeline.pinD (pcfgs (F := F)) tabs) staging_inj),
    launchOf barCells ownCells allToks)

abbrev startState : sProp 𝕄 := iprop(StableHlo.held (c : Thread nD τ) (Pipeline.ucRefs τ sig) (V0 m c) ∗ rest m 0 c)
abbrev endState : sProp 𝕄 := iprop(arrsEnd m c ∗ ret m c)

abbrev bundle : sProp 𝕄 :=
  iprop(StableHlo.held (c : Thread nD τ) (Pipeline.ucRefs τ sig) (V0 m c) ∗ ow c (O₀ c) ∗ creds (F := F) c)

theorem ow_intro (O : CellTallies nD τ sig Unit) : owes (c : Thread nD τ) O ∅ ⊢ (ow (F := F) c O : sProp 𝕄) := by
  unfold ow
  iintro H
  iexists ∅
  iexact H

theorem core_split : iprop(unscopedBufs c (fun b => m ((c : Thread nD τ).loc b)) ∗ unscopedSems0 c
      ∗ owes (c : Thread nD τ) (O₀ c) ∅ ∗ Pipeline.launchCred O₀ c ∗ prngReg c (ρ c) ∗ onDev 0 (lot (F := F)) c)
    ⊢ (iprop(bundle m c ∗ semVal (bar c) 0 ∗ onDev 0 (lot (F := F)) c) : sProp 𝕄) := by
  rw [show (unscopedBufs c (fun b => m ((c : Thread nD τ).loc b)) : sProp 𝕄) = StableHlo.held (c : Thread nD τ) (Pipeline.ucRefs τ sig) (V0 m c)
    from Pipeline.unscopedBufs_held c (V0 m c)]
  iintro ⟨Hh, Hs, HO, Hc, -, HG⟩
  isplitl [Hh HO Hc]
  · isplitl [Hh]; · iexact Hh
    isplitl [HO]; · iapply (ow_intro c (O₀ c)); iexact HO
    iapply (creds_intro c); iexact Hc
  isplitl [Hs]; · iapply (zero_bar c); iexact Hs
  iexact HG

theorem start_intro : iprop((recs m K ∗ marks (F := F)) ∗ (dealt (F := F) c ∗ bundle m c)) ⊢ startState m c := by
  unfold startState rest bundle
  iintro ⟨#HR, HD, Hh, HO, Hc⟩
  isplitl [Hh]; · iexact Hh
  isplitr [HO]
  · iapply (gear0_intro m K c)
    isplitr; · iexact HR
    isplitl [HD]; · iexact HD
    iexact Hc
  iexact HO

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ onDev 0 (lot (F := F)) c)) ∗ levAts L lv)
    ⊢ (|={Set.univ}=> bigSep Finset.univ (startState m) : sProp 𝕄) := by
  have h1 : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ onDev 0 (lot (F := F)) c))
      ⊢ iprop((bigSep Finset.univ fun c : Dev nD => bundle m c) ∗ (bigSep Finset.univ fun c : Dev nD => semVal (bar c) 0) ∗ bigSep Finset.univ (onDev 0 (lot (F := F)))) := by
    rw [← bigSep_sep', ← bigSep_sep']
    exact bigSep_mono fun c _ => core_split m c ρ
  have h2 : ∀ K : Dev nD × Option OK → ℕ,
      iprop((recs m K ∗ marks (F := F)) ∗ (bigSep Finset.univ fun c : Dev nD => dealt (F := F) c) ∗ bigSep Finset.univ fun c : Dev nD => bundle m c)
        ⊢ bigSep Finset.univ (startState m) := fun K => by
    rw [← bigSep_sep']
    exact bigSep_with_persistent fun c _ => start_intro m K c
  iintro ⟨H, -⟩
  ihave H' := h1 $$ H
  icases H' with ⟨HB, Hv, HG⟩
  imod (deal m) $$ [Hv HG] with ⟨%K, #HR, HD⟩
  · isplitl [Hv]; · iexact Hv
    iapply (onDev_all (F := F) 0 (lot (F := F))); iexact HG
  imodintro
  iapply (h2 K)
  isplitr; · iexact HR
  isplitl [HD]; · iexact HD
  iexact HB

/-- What the end says of a device's memory. -/
def ends (s : MemSt nD τ sig (Elt F)) : Prop :=
  (∀ w : Fin 3, s.mem ((spec0 w).arr.view.loc (c : Thread nD τ)) = m ((spec0 w).arr.view.loc (c : Thread nD τ)))
    ∧ s.mem ((c : Thread nD τ).loc main_arg0) = xIn m c ∧ s.mem ((c : Thread nD τ).loc main_v8) = outAll m c ∧ s.sem (bar c) = 0

theorem arrs_read (s' : Phys nD τ sig (Elt F)) : iprop(arrsEnd m c ∗ SI s')
    ⊢ (iprop(⌜∀ w : Fin 3, s'.mem.mem ((spec0 w).arr.view.loc (c : Thread nD τ)) = (pdat m c).arrAt w grid0.N⌝ ∗ SI s') : sProp 𝕄) :=
  Pipeline.PerCore.arrays_read (pcfgs (F := F)) tabs (pdats m) (p := 0) arr_whole0 c (share_full m c) (fun w => (pdat m c).arrAt w grid0.N) s'

theorem fin_read (s' : Phys nD τ sig (Elt F)) : iprop(endState m c ∗ SI s') ⊢ (|={Set.univ}=> iprop(⌜ends m c s'.mem⌝ ∗ SI s') : sProp 𝕄) := by
  unfold endState ret
  iintro ⟨⟨HA, Hb, Hx, Ho⟩, HSI⟩
  icombine HSI Hb gives %hb
  icombine HSI Hx gives %hx
  icombine HSI Ho gives %ho
  ihave Hr := (arrs_read m c s') $$ [HA HSI]
  · isplitl [HA]; · iexact HA
    iexact HSI
  icases Hr with ⟨%hw, HSI⟩
  imodintro
  isplitr
  · ipureintro
    refine ⟨fun w => (hw w).trans ?_, Buf.eq_of_forall_mem_univ hx, Buf.eq_of_forall_mem_univ ho, by simpa using hb⟩
    exact ((pdat m c).arrAt_in w (match w with | 0 => rfl | 1 => rfl | 2 => rfl) grid0.N)
  iexact HSI

theorem unscoped_eq : ∀ sm : SemLoc sig, sm.isScoped .tc = false → sm = loc none := by decide

set_option backward.isDefEq.respectTransparency.types false in
/-- Every run ends, with each device's arguments unchanged, its result at `outAll`, and all counters at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v8) = outAll m c) ∧ r.2.sem = fun _ => 0) :=
  Pipeline.PerCore.θ_run_regions_kit_sems (pcfgs (F := F)) tabs (pdats m) () staging_inj EP defs₀ 𝒱₀ L lv m ρ main (segsAt m)
    (fun c Q => by
      rewrite [main_chain c, Pipeline.PerCore.Seg.run_eq_chain,
        show (segsAt m c).map Pipeline.PerCore.Seg.prog = [
          StableHlo.seq (hostOps0 c),
          StableHlo.seq hostOps0_1,
          Prog.lift (.customCall (Pipeline.entry 0) ()) ] from rfl]
      dsimp (config := { failIfUnchanged := false }) only
      exact .rfl)
    (fun c => by
      simp only [segsAt, Pipeline.PerCore.Seg.pipes_host, Pipeline.PerCore.Seg.pipes_region, Pipeline.PerCore.Seg.pipes_nil]; decide)
    (O₀ := O₀) (hL := L_of_ne) (G := onDev 0 (lot (F := F))) (u₀ := u₀ (F := F))
    (hu₀ := by
      unfold u₀
      iintro Hu
      ihave H := (ownU_pair _ _) $$ Hu
      icases H with ⟨HP, HX⟩
      imodintro
      isplitl [HP]; · iexact HP
      iapply (onDev_intro (F := F) (lot (F := F)))
      iexact HX)
    (T₀ := startState m) (Tₙ := endState m)
    (hch := fun c => ⟨.rfl, .rfl, .rfl, .rfl⟩)
    (hinit := init m ρ)
    (QY := ends m)
    (hfin := fin_read m)
    (hQ := fun s h hs => ⟨fun c => ⟨⟨(h c).2.1, (h c).1 0, (h c).1 1, (h c).1 2⟩, (h c).2.2.1⟩,
      sem_eq_zero hs fun c sm hsm => by
        obtain rfl := unscoped_eq sm hsm
        exact (h c).2.2.2⟩)

end Cert.KernelIdeal.Ring
-- ==== Proof.Same.lean ====
/- The kernel as printed and the kernel read over the extended reals are one text: the run proved
   over any floats holds of both. -/
module

public import proofs.«01_k».proof.Defs
public import proofs.«01_k».proof.Proof.Gen.Kernel
public import proofs.«01_k».proof.Proof.Run

@[expose] public section

noncomputable section

namespace Cert.Proof

open Idealize.ShloMosaic Idealize.SL.Sem

attribute [local instance] Cert.Kernel.Gen.facts Cert.KernelIdeal.Gen.facts

set_option maxHeartbeats 1000000 in
/-- One grid step is the same program in both. -/
theorem body_same : @Cert.Kernel.cc0_body Bits _ _ = @Cert.KernelIdeal.cc0_body Bits _ _ := by rfl

set_option maxHeartbeats 1000000 in
/-- The tables of bodies agree. -/
theorem bodies_same : Cert.Kernel.defs₀ (F := Bits) = Cert.KernelIdeal.defs₀ := by
  unfold Cert.Kernel.defs₀ Cert.KernelIdeal.defs₀
  refine congrArg (Defs.onTc (nD := Cert.KernelIdeal.nD) (τ := Cert.KernelIdeal.τ) (sig := Cert.KernelIdeal.sig)
    (Λ := Cert.KernelIdeal.Λ₀)) ?_
  funext l a
  revert a
  match l with
  | ⟨0, _⟩ =>
    intro a
    obtain ⟨t, s⟩ := a
    dsimp only
    rw [body_same]
    rfl

set_option maxHeartbeats 1000000 in
/-- So do the tables of everything that runs. -/
theorem defs_same : Cert.Kernel.defs (F := Bits) = Cert.KernelIdeal.defs := by
  unfold Cert.Kernel.defs Cert.KernelIdeal.defs
  rw [bodies_same]
  rfl

set_option maxHeartbeats 1000000 in
/-- And the main programs. -/
theorem main_same : Cert.Kernel.main (F := Bits) = Cert.KernelIdeal.main := by rfl

/-- The kernel as printed ends, faults nowhere, keeps its arguments and leaves every counter at zero. -/
theorem frame_kernel : Cert.quiescent_Kernel (hKernel := Cert.Kernel.Gen.facts) := by
  intro m ρ _
  rw [defs_same, main_same]
  exact (θ_run Cert.KernelIdeal.defs _ _).mono (fun _ h => ⟨fun c => (h.1 c).1, h.2⟩)
    (Cert.KernelIdeal.Ring.run_main (F := Bits) m ρ)

end Cert.Proof
-- ==== Proof.Value.lean ====
/- What the kernel computes over the extended reals, element by element: the blocks it multiplies, one
   block's product, and the accumulator at the end. -/
module

public import proofs.«01_k».proof.Proof.Contents
public import Idealize.ShloMosaic.Lib.ValueIdx
public import Idealize.ShloMosaic.PureOps.Ideal.Laws

@[expose] public section

noncomputable section

namespace Cert.KernelIdeal.Ring

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The left factor of block `s` is the rows that device `c` is given of the block of `x` that the
    block's device holds: the casts are the identity. -/
theorem xc_apply (s : Fin 4) (y : S1024x1024.Idx) :
    xc (F := Ideal) m c s y = rowBlk (xIn m (at_ c (sig_ s))) c y := by
  unfold xc x8 k0_pay7 k0_pay1
  dsimp only
  rw [shapeCast_self, shapeCast_shapeCast]
  show stVec m (at_ c (sig_ s)) c (Shape.reshapeEquiv _ y) = _
  unfold stVec
  rw [Equiv.symm_apply_apply]

/-- Where an element of step `t`'s block of `w` lies in `w`. -/
abbrev wIdx (t : Fin grid0.N) (y : S1024x1024.Idx) : S4096x8192.Idx :=
  ix2 ⟨1024 * (at_ c (sig_ (grid0.coords t 0))).val + (y 0).val, by
      have h0 : (at_ c (sig_ (grid0.coords t 0))).val < 4 := (at_ c (sig_ (grid0.coords t 0))).isLt
      have h1 : (y 0).val < 1024 := (y 0).isLt
      omega⟩
    ⟨1024 * (grid0.coords t 1).val + (y 1).val, by
      have h0 : (grid0.coords t 1).val < 8 := (grid0.coords t 1).isLt
      have h1 : (y 1).val < 1024 := (y 1).isLt
      omega⟩

/-- Step `t`'s block of `w`, by elements. -/
theorem wv_apply (t : Fin grid0.N) (y : S1024x1024.Idx) :
    wv (F := Ideal) m c t y = m ((c : Thread nD τ).loc main_arg1) (wIdx c t y) := by
  show m ((c : Thread nD τ).loc main_arg1) ((((cfg0 (adm (F := Ideal) c)).win 0).rect t).emb y) = _
  refine congrArg (m ((c : Thread nD τ).loc main_arg1)) (funext fun a => Fin.ext ?_)
  refine (((cfg0 (adm (F := Ideal) c)).win 0).rect_emb_val t y a).trans ?_
  show cc0_transform_1 k0_off1_inb numel1_S1 (tabPf (F := Ideal) c) (grid0.coords t) a * _ + _ = _
  rw [transform_tab]
  match a with
  | ⟨0, _⟩ => exact congrArg (· + (y 0).val) (Nat.mul_comm _ 1024)
  | ⟨1, _⟩ => exact congrArg (· + (y 1).val) (Nat.mul_comm _ 1024)

/-- The two scales. -/
abbrev sx : EReal := m ((c : Thread nD τ).loc main_arg2) one_
abbrev sw : EReal := m ((c : Thread nD τ).loc main_arg3) one_

/-- Every step fetches them whole. -/
theorem s1v_apply (t : Fin grid0.N) : s1v (F := Ideal) m c t one_ = sx m c := by
  show m ((c : Thread nD τ).loc main_arg2) ((((cfg0 (adm (F := Ideal) c)).win 1).rect t).emb one_) = _
  refine congrArg (m ((c : Thread nD τ).loc main_arg2)) (funext fun a => Fin.ext ?_)
  exact (Nat.lt_one_iff.mp (by revert a; intro a; match a with | ⟨0, _⟩ => exact Fin.isLt _)).trans rfl

theorem s2v_apply (t : Fin grid0.N) : s2v (F := Ideal) m c t one_ = sw m c := by
  show m ((c : Thread nD τ).loc main_arg3) ((((cfg0 (adm (F := Ideal) c)).win 2).rect t).emb one_) = _
  refine congrArg (m ((c : Thread nD τ).loc main_arg3)) (funext fun a => Fin.ext ?_)
  exact (Nat.lt_one_iff.mp (by revert a; intro a; match a with | ⟨0, _⟩ => exact Fin.isLt _)).trans rfl

/-- The products' dimensions. -/
abbrev dd : DotDims S1024x1024 S1024x1024 S1024x1024 := dot_S1024x1024_S1024x1024_S1024x1024_1_0_0_1_n_n

theorem dd_left (i : S1024x1024.Idx) (k : Fin 1024) :
    dd.lhsIdx i ((contrEquiv1 dd 1024 rfl rfl).symm k) = ix2 (i 0) k := funext fun a => Fin.ext (by
  match a with
  | ⟨0, _⟩ =>
    show (dd.lhsIdx i _ 0).val = _
    unfold DotDims.lhsIdx
    rw [dif_neg (show ¬(0 : Fin S1024x1024.rank) ∈ dd.lhsBatch by decide),
      dif_pos (show (0 : Fin S1024x1024.rank) ∈ dd.lhsNonContracting by decide)]
    rfl
  | ⟨1, _⟩ => exact (dd.lhsIdx_val_of_single rfl i _).trans (contrEquiv1_symm_val dd 1024 rfl rfl k))

theorem dd_right (i : S1024x1024.Idx) (k : Fin 1024) :
    dd.rhsIdx i ((contrEquiv1 dd 1024 rfl rfl).symm k) = ix2 k (i 1) := funext fun a => Fin.ext (by
  match a with
  | ⟨0, _⟩ => exact (dd.rhsIdx_val_of_single rfl i _).trans (contrEquiv1_symm_val dd 1024 rfl rfl k)
  | ⟨1, _⟩ =>
    show (dd.rhsIdx i _ 1).val = _
    unfold DotDims.rhsIdx
    rw [dif_neg (show ¬(1 : Fin S1024x1024.rank) ∈ dd.rhsBatch by decide),
      dif_pos (show (1 : Fin S1024x1024.rank) ∈ dd.rhsNonContracting by decide)]
    rfl)

/-- One block's product is the textbook sum. -/
theorem pay9_apply (a b : Vec Ideal S1024x1024 .fp8e5m2) (i : S1024x1024.Idx) :
    k0_pay9 (F := Ideal) a b i = ∑ k : Fin 1024, a (ix2 (i 0) k) * b (ix2 k (i 1)) := by
  unfold k0_pay9
  simp only [matmul]
  rw [Ideal.matmul_constant_zero_apply, ← Equiv.sum_comp (contrEquiv1 dd 1024 rfl rfl).symm]
  exact Finset.sum_congr rfl fun k _ => by rw [dd_left, dd_right]; rfl

/-- The right factor is the block of `w` itself. -/
theorem pay8_apply (v : Vec Ideal S1024x1024 .f32) (y : S1024x1024.Idx) : k0_pay8 (F := Ideal) v y = v y := by
  unfold k0_pay8
  rw [shapeCast_self, shapeCast_self]
  rfl

theorem part_apply (s : Fin 4) (j : Fin 8) (i : S1024x1024.Idx) :
    part (F := Ideal) m c s j i = ∑ k : Fin 1024, rowBlk (xIn m (at_ c (sig_ s))) c (ix2 (i 0) k)
      * m ((c : Thread nD τ).loc main_arg1) (wIdx c (stp s j) (ix2 k (i 1))) := by
  unfold part
  rw [pay9_apply]
  refine Finset.sum_congr rfl fun k _ => ?_
  rw [xc_apply, pay8_apply, wv_apply]

/-- The finished panel `j`: the four products added up, times the product of the scales. -/
theorem accv_apply (j : Fin 8) (i : S1024x1024.Idx) :
    accv (F := Ideal) m c 3 j i = (∑ s : Fin 4, (part (F := Ideal) m c s j i : EReal)) * (sx m c * sw m c) := by
  rw [Fin.sum_univ_four]
  rw [accv, accv, accv, accv]
  unfold k0_pay12 k0_pay11 k0_pay10
  dsimp only
  simp only [shapeCast_self]
  rw [s1v_apply, s2v_apply]
  rfl

end Cert.KernelIdeal.Ring
-- ==== Proof.Equation.lean ====
/- The equation: what device `c` ends with is block `c` of the rows of the reference's result. -/
module

public import proofs.«01_k».proof.Defs
public import proofs.«01_k».proof.Proof.Value
public import proofs.«01_k».proof.Proof.Gen.ReferenceIdeal
public import proofs.«01_k».proof.Proof.Gen.ReferenceIdeal.Read
public import Idealize.ShloMosaic.Lib.Layout
public import Idealize.ShloMosaic.Lib.Pointwise.Sums

@[expose] public section

noncomputable section

namespace Cert.KernelIdeal.Ring

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- A device takes every block of the contraction once. -/
theorem order_bijective (c : Dev nD) : Function.Bijective fun s : Fin 4 => (at_ c (sig_ s) : Fin 4) := by
  revert c; decide

/-- A sum over the contraction, taken block by block in a device's own order. -/
theorem sum_in_order (f : Fin 4096 → EReal) :
    ∑ k : Fin 4096, f k = ∑ s : Fin 4, ∑ k : Fin 1024, f ⟨(at_ c (sig_ s)).val * 1024 + k.val, by
      have h0 : (at_ c (sig_ s)).val < 4 := (at_ c (sig_ s)).isLt
      have h1 : k.val < 1024 := k.isLt
      omega⟩ := by
  rw [Fin.sum_univ_tiles 4 1024 rfl f]
  exact ((order_bijective c).sum_comp (fun d : Fin 4 => ∑ k : Fin 1024, f ⟨d.val * 1024 + k.val, by
    have h0 : d.val < 4 := d.isLt
    have h1 : k.val < 1024 := k.isLt
    omega⟩)).symm

/-- The block of `x` on a device, by elements of the whole. -/
theorem x_apply (X : Cert.ReferenceIdeal.S4096x4096.Idx → EReal) (d : Dev nD)
    (hx : xIn m d = Layout.block ⟨2, ![4096, 1024]⟩ ⟨2, ![4096, 4096]⟩ 1 4 d X) (r k : Fin 1024) :
    rowBlk (xIn m d) c (ValueIdx.ix2 r k) = X (ValueIdx.ix2
      ⟨c.val * 1024 + r.val, by have h : c.val < 4 := c.isLt; omega⟩
      ⟨d.val * 1024 + k.val, by have h : d.val < 4 := d.isLt; omega⟩) := by
  unfold rowBlk
  rw [hx, Layout.block_apply]
  refine congrArg X (funext fun a => Fin.ext ?_)
  match a with
  | ⟨0, _⟩ =>
    show 1024 * c.val + 1 * r.val = c.val * 1024 + r.val
    omega
  | ⟨1, _⟩ =>
    show d.val * 1024 + (0 + 1 * k.val) = d.val * 1024 + k.val
    omega

/-- Device `c`'s result is its block of the reference's. -/
theorem out_eq (X : Cert.ReferenceIdeal.S4096x4096.Idx → EReal) (W : S4096x8192.Idx → EReal) (A B : S1.Idx → EReal)
    (hx : ∀ d : Dev nD, xIn m d = Layout.block ⟨2, ![4096, 1024]⟩ ⟨2, ![4096, 4096]⟩ 1 4 d X)
    (hw : m ((c : Thread nD τ).loc main_arg1) = W)
    (ha : m ((c : Thread nD τ).loc main_arg2) = A) (hb : m ((c : Thread nD τ).loc main_arg3) = B) :
    outAll (F := Ideal) m c = Layout.block ⟨2, ![1024, 8192]⟩ ⟨2, ![4096, 8192]⟩ 0 4 c
      (Cert.ReferenceIdeal.Read.val_main_v4 (F := Ideal) X W A B) := by
  funext i
  rw [Layout.block_apply, Cert.ReferenceIdeal.Read.val_main_v4_apply, Cert.ReferenceIdeal.Read.val_main_v0_apply,
    Cert.ReferenceIdeal.Read.val_main_v3_apply, Cert.ReferenceIdeal.Read.val_main_v2_apply,
    Cert.ReferenceIdeal.Read.val_main_v1_apply, sum_in_order c]
  refine (accv_apply m c _ _).trans ?_
  refine congrArg₂ (fun p q : EReal => p * q) (Finset.sum_congr rfl fun s _ => ?_) ?_
  · rw [part_apply]
    refine Finset.sum_congr rfl fun k _ => ?_
    refine congrArg₂ (fun p q : EReal => p * q)
      ((x_apply m c X _ (hx _) (i 0 : Fin 1024) k).trans (congrArg X (funext fun a => Fin.ext ?_)))
      ((congrFun hw _).trans (congrArg W (funext fun a => Fin.ext ?_)))
    · match a with
      | ⟨0, _⟩ => rfl
      | ⟨1, _⟩ => rfl
    · have h0 : (grid0.coords (stp s ⟨(i 1).val / 1024, Nat.div_lt_of_lt_mul (i 1).isLt⟩) 0) = s := Fin.ext (by
        rw [coords_0]; show (8 * s.val + (i 1).val / 1024) / 8 = s.val
        have : (i 1).val < 8192 := (i 1).isLt
        omega)
      have h1 : (grid0.coords (stp s ⟨(i 1).val / 1024, Nat.div_lt_of_lt_mul (i 1).isLt⟩) 1).val = (i 1).val / 1024 := by
        rw [coords_1]; show (8 * s.val + (i 1).val / 1024) % 8 = (i 1).val / 1024
        have : (i 1).val < 8192 := (i 1).isLt
        omega
      match a with
      | ⟨0, _⟩ =>
        show 1024 * (at_ c (sig_ (grid0.coords (stp s ⟨(i 1).val / 1024, Nat.div_lt_of_lt_mul (i 1).isLt⟩) 0))).val + k.val
          = (at_ c (sig_ s)).val * 1024 + k.val
        rw [h0]
        omega
      | ⟨1, _⟩ =>
        show 1024 * (grid0.coords (stp s ⟨(i 1).val / 1024, Nat.div_lt_of_lt_mul (i 1).isLt⟩) 1).val + (i 1).val % 1024
          = (i 1).val
        rw [h1]
        omega
  · have e : ∀ y : S1.Idx, y = one_ := fun y => funext fun a => Fin.ext (by
      match a with
      | ⟨0, _⟩ => exact Nat.lt_one_iff.mp (y 0).isLt)
    show sx m c * sw m c = A _ * B _
    unfold sx sw
    rw [ha, hb]
    exact congrArg₂ (fun p q : EReal => p * q) (congrArg A (e _).symm) (congrArg B (e _).symm)

end Cert.KernelIdeal.Ring
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Regions
public import proofs.«01_k».proof.Proof.Run
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem

/-- The kernel read over the extended reals ends, faults nowhere, keeps its arguments and leaves
    every counter at zero. -/
theorem frame_ideal : Cert.quiescent_KernelIdeal (hKernelIdeal := Cert.KernelIdeal.Gen.facts) :=
  fun m ρ _ => (θ_run Cert.KernelIdeal.defs _ _).mono (fun _ h => ⟨fun c => (h.1 c).1, h.2⟩)
    (Cert.KernelIdeal.Ring.run_main (F := Ideal) m ρ)

/-- So does the reference, which has no counter. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals every device ends with its block of rows of the reference's result. -/
theorem value : Cert.algebraic_KernelIdeal_ReferenceIdeal (hKernelIdeal := Cert.KernelIdeal.Gen.facts)
    (hReferenceIdeal := Cert.ReferenceIdeal.Gen.facts) := by
  intro m ρ m' ρ' _ hagree
  refine ⟨Cert.ReferenceIdeal.Read.val_main_v4 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)),
    ?_, ?_⟩
  · exact (θ_run Cert.KernelIdeal.defs _ _).mono
      (fun _ h c => ⟨((h.1 c).2).trans (Cert.KernelIdeal.Ring.out_eq m c _ _ _ _ (fun d => (hagree d).1)
        (hagree c).2.1 (hagree c).2.2.1 (hagree c).2.2.2), (h.1 c).1⟩)
      (Cert.KernelIdeal.Ring.run_main (F := Ideal) m ρ)
  · exact (θ_run Cert.ReferenceIdeal.defs _ _).mono
      (fun _ h => ⟨(h 0).1.trans (Cert.ReferenceIdeal.Read.val_main_v4_eq _ _ _ _), (h 0).2⟩)
      (Cert.ReferenceIdeal.Value.run (F := Ideal) m' ρ')

/-- Everything claimed. -/
theorem claim : Cert.Claim :=
  ⟨Cert.Kernel.Gen.facts, Cert.KernelIdeal.Gen.facts, Cert.ReferenceIdeal.Gen.facts,
    frame_kernel, frame_ideal, frame_reference, trivial, value⟩

end Cert.Proof
